-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2x256x256 : Shape := ⟨3, ![2, 256, 256]⟩
abbrev S256x256 : Shape := ⟨2, ![256, 256]⟩
abbrev S9 : Shape := ⟨1, ![9]⟩
abbrev S_ : Shape := ⟨0, ![]⟩
abbrev S1x256x256 : Shape := ⟨3, ![1, 256, 256]⟩
abbrev S1 : Shape := ⟨1, ![1]⟩
abbrev S512x256 : Shape := ⟨2, ![512, 256]⟩

abbrev nBuf : Space → Nat
  | .hbm => 2
  | .vmem => 8
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .local _ .vmem, ⟨0, _⟩ => ⟨S1024x512, .bf16⟩
  | .local _ .vmem, ⟨1, _⟩ => ⟨S1024x512, .bf16⟩
  | .local _ .vmem, ⟨2, _⟩ => ⟨S2x256x256, .bf16⟩
  | .local _ .vmem, ⟨3, _⟩ => ⟨S2x256x256, .bf16⟩
  | .local _ .vmem, ⟨4, _⟩ => ⟨S2x256x256, .bf16⟩
  | .local _ .vmem, ⟨5, _⟩ => ⟨S2x256x256, .bf16⟩
  | .local _ .vmem, ⟨6, _⟩ => ⟨S256x256, .bf16⟩
  | .local _ .vmem, ⟨7, _⟩ => ⟨S256x256, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v23 : BitVec 32 := Scalar.xori v2 c1_i32_7
  let c1_i32_9 : BitVec 32 := 1#32
  let v26 : BitVec 32 := Scalar.muli v23 c1_i32_9
  let v27 : BitVec 32 := Scalar.addi c0_i32_10 v26
  v27.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v24 : BitVec 32 := Scalar.xori v2 c3_i32
  let c1_i32_12 : BitVec 32 := 1#32
  let v28 : BitVec 32 := Scalar.muli v24 c1_i32_12
  let v29 : BitVec 32 := Scalar.addi c0_i32_13 v28
  v29.toNat
def k0_off1 (d0 : Dev nD) : Fin 2 → Nat :=
  let c2_i32_16 : BitVec 32 := 2#32
  let c1_i32_15 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.subi c1_i32_15 v19
  let v31 : BitVec 32 := Scalar.muli c2_i32_16 v30
  let c256_i32 : BitVec 32 := 256#32
  let v32 : BitVec 32 := Scalar.muli v31 c256_i32
  let v33 : Index := Scalar.indexCast v32
  let c0 : Index := 0#32
  ![v33.toNat, 0]
def k0_off2 (d0 : Dev nD) : Fin 2 → Nat :=
  let c2_i32_20 : BitVec 32 := 2#32
  let c1_i32_15 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.subi c1_i32_15 v19
  let v39 : BitVec 32 := Scalar.muli c2_i32_20 v30
  let c1_i32_21 : BitVec 32 := 1#32
  let v40 : BitVec 32 := Scalar.addi v39 c1_i32_21
  let c256_i32_22 : BitVec 32 := 256#32
  let v41 : BitVec 32 := Scalar.muli v40 c256_i32_22
  let v42 : Index := Scalar.indexCast v41
  let c0_23 : Index := 0#32
  ![v42.toNat, 0]
def k0_off3 (d0 : Dev nD) : Fin 2 → Nat :=
  let c1_i32_26 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let v20 : BitVec 32 := Scalar.remsi v2 c2_i32_5
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v21 : BitVec 32 := Scalar.addi v20 v19
  let c2_i32_6 : BitVec 32 := 2#32
  let v22 : BitVec 32 := Scalar.remsi v21 c2_i32_6
  let v48 : BitVec 32 := Scalar.subi c1_i32_26 v22
  let c256_i32_27 : BitVec 32 := 256#32
  let v49 : BitVec 32 := Scalar.muli v48 c256_i32_27
  let v50 : Index := Scalar.indexCast v49
  let c256 : Index := 256#32
  ![v50.toNat, 256]
def k0_off4 (d0 : Dev nD) : Fin 2 → Nat :=
  let c2_i32_31 : BitVec 32 := 2#32
  let c1_i32_26 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let v20 : BitVec 32 := Scalar.remsi v2 c2_i32_5
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v21 : BitVec 32 := Scalar.addi v20 v19
  let c2_i32_6 : BitVec 32 := 2#32
  let v22 : BitVec 32 := Scalar.remsi v21 c2_i32_6
  let v48 : BitVec 32 := Scalar.subi c1_i32_26 v22
  let v56 : BitVec 32 := Scalar.addi c2_i32_31 v48
  let c256_i32_32 : BitVec 32 := 256#32
  let v57 : BitVec 32 := Scalar.muli v56 c256_i32_32
  let v58 : Index := Scalar.indexCast v57
  let c256_33 : Index := 256#32
  ![v58.toNat, 256]
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v24 : BitVec 32 := Scalar.xori v2 c3_i32
  let c1_i32_39 : BitVec 32 := 1#32
  let v64 : BitVec 32 := Scalar.muli v24 c1_i32_39
  let v65 : BitVec 32 := Scalar.addi c0_i32_40 v64
  v65.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v23 : BitVec 32 := Scalar.xori v2 c1_i32_7
  let c1_i32_43 : BitVec 32 := 1#32
  let v70 : BitVec 32 := Scalar.muli v23 c1_i32_43
  let v71 : BitVec 32 := Scalar.addi c0_i32_44 v70
  v71.toNat
def k0_off5 (d0 : Dev nD) : Fin 2 → Nat :=
  let c2_i32_45 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v76 : BitVec 32 := Scalar.muli c2_i32_45 v19
  let c256_i32_46 : BitVec 32 := 256#32
  let v77 : BitVec 32 := Scalar.muli v76 c256_i32_46
  let v78 : Index := Scalar.indexCast v77
  let c0_47 : Index := 0#32
  ![v78.toNat, 0]
def k0_off6 (d0 : Dev nD) : Fin 2 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v85 : BitVec 32 := Scalar.muli c2_i32_51 v19
  let c1_i32_52 : BitVec 32 := 1#32
  let v86 : BitVec 32 := Scalar.addi v85 c1_i32_52
  let c256_i32_53 : BitVec 32 := 256#32
  let v87 : BitVec 32 := Scalar.muli v86 c256_i32_53
  let v88 : Index := Scalar.indexCast v87
  let c0_54 : Index := 0#32
  ![v88.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let v20 : BitVec 32 := Scalar.remsi v2 c2_i32_5
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v21 : BitVec 32 := Scalar.addi v20 v19
  let c2_i32_6 : BitVec 32 := 2#32
  let v22 : BitVec 32 := Scalar.remsi v21 c2_i32_6
  let c256_i32_59 : BitVec 32 := 256#32
  let v96 : BitVec 32 := Scalar.muli v22 c256_i32_59
  let v97 : Index := Scalar.indexCast v96
  let c256_60 : Index := 256#32
  ![v97.toNat, 256]
def k0_off8 (d0 : Dev nD) : Fin 2 → Nat :=
  let c2_i32_63 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let v20 : BitVec 32 := Scalar.remsi v2 c2_i32_5
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v21 : BitVec 32 := Scalar.addi v20 v19
  let c2_i32_6 : BitVec 32 := 2#32
  let v22 : BitVec 32 := Scalar.remsi v21 c2_i32_6
  let v103 : BitVec 32 := Scalar.addi c2_i32_63 v22
  let c256_i32_64 : BitVec 32 := 256#32
  let v104 : BitVec 32 := Scalar.muli v103 c256_i32_64
  let v105 : Index := Scalar.indexCast v104
  let c256_65 : Index := 256#32
  ![v105.toNat, 256]
def k0_off9 (d0 : Dev nD) : Fin 2 → Nat :=
  let c2_i32_120 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v174 : BitVec 32 := Scalar.muli c2_i32_120 v19
  let c1_i32_121 : BitVec 32 := 1#32
  let v175 : BitVec 32 := Scalar.addi v174 c1_i32_121
  let c2_i32_5 : BitVec 32 := 2#32
  let v20 : BitVec 32 := Scalar.remsi v2 c2_i32_5
  let v21 : BitVec 32 := Scalar.addi v20 v19
  let c2_i32_6 : BitVec 32 := 2#32
  let v22 : BitVec 32 := Scalar.remsi v21 c2_i32_6
  let v176 : BitVec 32 := Scalar.subi v175 v22
  let c256_i32_122 : BitVec 32 := 256#32
  let v177 : BitVec 32 := Scalar.muli v176 c256_i32_122
  let c0_i32_130 : BitVec 32 := 0#32
  ![v177.toNat, 0]
def k0_dev5 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v23 : BitVec 32 := Scalar.xori v2 c1_i32_7
  let c1_i32_128 : BitVec 32 := 1#32
  let v182 : BitVec 32 := Scalar.muli v23 c1_i32_128
  let v183 : BitVec 32 := Scalar.addi c0_i32_129 v182
  v183.toNat
def k0_off10 (d0 : Dev nD) : Fin 2 → Nat :=
  let c2_i32_124 : BitVec 32 := 2#32
  let c1_i32_123 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v178 : BitVec 32 := Scalar.subi c1_i32_123 v19
  let v179 : BitVec 32 := Scalar.muli c2_i32_124 v178
  let c2_i32_5 : BitVec 32 := 2#32
  let v20 : BitVec 32 := Scalar.remsi v2 c2_i32_5
  let v21 : BitVec 32 := Scalar.addi v20 v19
  let c2_i32_6 : BitVec 32 := 2#32
  let v22 : BitVec 32 := Scalar.remsi v21 c2_i32_6
  let v180 : BitVec 32 := Scalar.addi v179 v22
  let c256_i32_125 : BitVec 32 := 256#32
  let v181 : BitVec 32 := Scalar.muli v180 c256_i32_125
  let c256_i32_135 : BitVec 32 := 256#32
  ![v181.toNat, 256]
def k0_dev6 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v24 : BitVec 32 := Scalar.xori v2 c3_i32
  let c1_i32_133 : BitVec 32 := 1#32
  let v189 : BitVec 32 := Scalar.muli v24 c1_i32_133
  let v190 : BitVec 32 := Scalar.addi c0_i32_134 v189
  v190.toNat
def k0_off11 (d0 : Dev nD) : Fin 2 → Nat :=
  let c2_i32_119 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v172 : BitVec 32 := Scalar.muli c2_i32_119 v19
  let c2_i32_5 : BitVec 32 := 2#32
  let v20 : BitVec 32 := Scalar.remsi v2 c2_i32_5
  let v21 : BitVec 32 := Scalar.addi v20 v19
  let c2_i32_6 : BitVec 32 := 2#32
  let v22 : BitVec 32 := Scalar.remsi v21 c2_i32_6
  let v173 : BitVec 32 := Scalar.addi v172 v22
  let c256_i32_154 : BitVec 32 := 256#32
  let v212 : BitVec 32 := Scalar.muli v173 c256_i32_154
  let v213 : Index := Scalar.indexCast v212
  let c0_155 : Index := 0#32
  ![v213.toNat, 0]
def k0_off12 (d0 : Dev nD) : Fin 2 → Nat :=
  let c2_i32_119 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v172 : BitVec 32 := Scalar.muli c2_i32_119 v19
  let c2_i32_5 : BitVec 32 := 2#32
  let v20 : BitVec 32 := Scalar.remsi v2 c2_i32_5
  let v21 : BitVec 32 := Scalar.addi v20 v19
  let c2_i32_6 : BitVec 32 := 2#32
  let v22 : BitVec 32 := Scalar.remsi v21 c2_i32_6
  let v173 : BitVec 32 := Scalar.addi v172 v22
  let c256_i32_160 : BitVec 32 := 256#32
  let v221 : BitVec 32 := Scalar.muli v173 c256_i32_160
  let v222 : Index := Scalar.indexCast v221
  let c256_161 : Index := 256#32
  ![v222.toNat, 256]
def k0_off13 (d0 : Dev nD) : Fin 2 → Nat :=
  let c2_i32_119 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v172 : BitVec 32 := Scalar.muli c2_i32_119 v19
  let c2_i32_5 : BitVec 32 := 2#32
  let v20 : BitVec 32 := Scalar.remsi v2 c2_i32_5
  let v21 : BitVec 32 := Scalar.addi v20 v19
  let c2_i32_6 : BitVec 32 := 2#32
  let v22 : BitVec 32 := Scalar.remsi v21 c2_i32_6
  let v173 : BitVec 32 := Scalar.addi v172 v22
  let c256_i32_167 : BitVec 32 := 256#32
  let v231 : BitVec 32 := Scalar.muli v173 c256_i32_167
  let c0_i32_174 : BitVec 32 := 0#32
  ![v231.toNat, 0]
def k0_dev7 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v23 : BitVec 32 := Scalar.xori v2 c1_i32_7
  let c1_i32_172 : BitVec 32 := 1#32
  let v234 : BitVec 32 := Scalar.muli v23 c1_i32_172
  let v235 : BitVec 32 := Scalar.addi c0_i32_173 v234
  v235.toNat
def k0_off14 (d0 : Dev nD) : Fin 2 → Nat :=
  let c2_i32_119 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v172 : BitVec 32 := Scalar.muli c2_i32_119 v19
  let c2_i32_5 : BitVec 32 := 2#32
  let v20 : BitVec 32 := Scalar.remsi v2 c2_i32_5
  let v21 : BitVec 32 := Scalar.addi v20 v19
  let c2_i32_6 : BitVec 32 := 2#32
  let v22 : BitVec 32 := Scalar.remsi v21 c2_i32_6
  let v173 : BitVec 32 := Scalar.addi v172 v22
  let c256_i32_169 : BitVec 32 := 256#32
  let v233 : BitVec 32 := Scalar.muli v173 c256_i32_169
  let c256_i32_179 : BitVec 32 := 256#32
  ![v233.toNat, 256]
def k0_dev8 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v24 : BitVec 32 := Scalar.xori v2 c3_i32
  let c1_i32_177 : BitVec 32 := 1#32
  let v242 : BitVec 32 := Scalar.muli v24 c1_i32_177
  let v243 : BitVec 32 := Scalar.addi c0_i32_178 v242
  v243.toNat
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c512_i32_203 : BitVec 32 := 512#32
  let v271 : BitVec 32 := Scalar.muli v19 c512_i32_203
  let c0_i32_213 : BitVec 32 := 0#32
  ![v271.toNat, 0]
def k0_dev9 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v24 : BitVec 32 := Scalar.xori v2 c3_i32
  let c1_i32_211 : BitVec 32 := 1#32
  let v278 : BitVec 32 := Scalar.muli v24 c1_i32_211
  let v279 : BitVec 32 := Scalar.addi c0_i32_212 v278
  v279.toNat
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let v20 : BitVec 32 := Scalar.remsi v2 c2_i32_5
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v21 : BitVec 32 := Scalar.addi v20 v19
  let c2_i32_6 : BitVec 32 := 2#32
  let v22 : BitVec 32 := Scalar.remsi v21 c2_i32_6
  let c256_i32_205 : BitVec 32 := 256#32
  let v273 : BitVec 32 := Scalar.muli v22 c256_i32_205
  let c256_i32_218 : BitVec 32 := 256#32
  ![v273.toNat, 256]
def k0_dev10 (d0 : Dev nD) : Nat :=
  let c0_i32_217 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v23 : BitVec 32 := Scalar.xori v2 c1_i32_7
  let c1_i32_216 : BitVec 32 := 1#32
  let v286 : BitVec 32 := Scalar.muli v23 c1_i32_216
  let v287 : BitVec 32 := Scalar.addi c0_i32_217 v286
  v287.toNat
def k0_off17 (d0 : Dev nD) : Fin 2 → Nat :=
  let c2_i32_208 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let v20 : BitVec 32 := Scalar.remsi v2 c2_i32_5
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v21 : BitVec 32 := Scalar.addi v20 v19
  let c2_i32_6 : BitVec 32 := 2#32
  let v22 : BitVec 32 := Scalar.remsi v21 c2_i32_6
  let v276 : BitVec 32 := Scalar.addi c2_i32_208 v22
  let c256_i32_209 : BitVec 32 := 256#32
  let v277 : BitVec 32 := Scalar.muli v276 c256_i32_209
  let c256_i32_223 : BitVec 32 := 256#32
  ![v277.toNat, 256]
def k0_dev11 (d0 : Dev nD) : Nat :=
  let c0_i32_222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v23 : BitVec 32 := Scalar.xori v2 c1_i32_7
  let c1_i32_221 : BitVec 32 := 1#32
  let v294 : BitVec 32 := Scalar.muli v23 c1_i32_221
  let v295 : BitVec 32 := Scalar.addi c0_i32_222 v294
  v295.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S4x1024x512 : Shape := ⟨3, ![4, 1024, 512]⟩
abbrev S_ : Shape := ⟨0, ![]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x1024x512, .bf16⟩
  | .hbm, ⟨2, _⟩ => ⟨S4x1024x512, .f32⟩
  | .hbm, ⟨3, _⟩ => ⟨S_, .f32⟩
  | .hbm, ⟨4, _⟩ => ⟨S1024x512, .f32⟩
  | .hbm, ⟨5, _⟩ => ⟨S1024x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdeal.Base.lean ====
/-
The device tables, the regions of the output, the memrefs, the cells and the contents that the kernel's copies move.

Four devices stand on a ring of two directions: `pb` and `pg` are a device's two neighbours. The output is cut in
four blocks of 256 rows by two halves of 256 columns: `blk k h` is rows `256 k` on of column half `h`. Column half 0
is reduced first with `pg` and then with `pb`, column half 1 first with `pb` and then with `pg`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The rounds of the kernel's own cells, duties named by `Bool`. -/
abbrev UB : Type := URounds (GSem nD τ sig) Bool
/-- The pipeline's rounds beside the kernel's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices -/

/-- The neighbour across the first axis (device number with its last bit flipped). -/
def pb : Dev nD → Dev nD := ![1, 0, 3, 2]
/-- The neighbour across the second axis (the mirrored device number). -/
def pg : Dev nD → Dev nD := ![3, 2, 1, 0]

theorem pb_pb (c : Dev nD) : pb (pb c) = c := by revert c; decide
theorem pg_pg (c : Dev nD) : pg (pg c) = c := by revert c; decide
theorem pb_pg (c : Dev nD) : pb (pg c) = pg (pb c) := by revert c; decide
theorem pb_ne_pg (c : Dev nD) : pb c ≠ pg c := by revert c; decide
theorem pb_ne (c : Dev nD) : pb c ≠ c := by revert c; decide
theorem pg_ne (c : Dev nD) : pg c ≠ c := by revert c; decide

/-- `pb` and `pg` as permutations of the devices. -/
def pbE : Dev nD ≃ Dev nD := ⟨pb, pb, pb_pb, pb_pb⟩
def pgE : Dev nD ≃ Dev nD := ⟨pg, pg, pg_pg, pg_pg⟩

/-- Which half of the rows the device keeps in column half 0. -/
def gh : Dev nD → Fin 2 := ![0, 0, 1, 1]
/-- The two row blocks the device keeps in column half 0, ... -/
def k5 : Dev nD → Fin 4 := ![0, 0, 2, 2]
def k6 : Dev nD → Fin 4 := ![1, 1, 3, 3]
/-- ... and those it keeps in column half 1. -/
def k7 : Dev nD → Fin 4 := ![0, 1, 1, 0]
def k8 : Dev nD → Fin 4 := ![2, 3, 3, 2]
/-- The row block whose sum the device completes. -/
def kown : Dev nD → Fin 4 := ![0, 1, 3, 2]
/-- The device that completes a row block. -/
def own : Fin 4 → Dev nD := ![0, 1, 3, 2]

theorem own_kown (c : Dev nD) : own (kown c) = c := by revert c; decide

/-! ## The regions of the output -/

def blkOff (k : Fin 4) (h : Fin 2) : Fin 2 → ℕ := ![256 * k.val, 256 * h.val]
theorem blk_inb (k : Fin 4) (h : Fin 2) : ∀ a, blkOff k h a + S256x256.size a ≤ S1024x512.size a := by revert k h; decide
/-- Row block `k` of column half `h`. -/
abbrev blk (k : Fin 4) (h : Fin 2) : Rect S1024x512 := Rect.unit (blkOff k h) S256x256.size (blk_inb k h)

def halfOff (g : Fin 2) : Fin 2 → ℕ := ![512 * g.val, 0]
theorem half_inb (g : Fin 2) : ∀ a, halfOff g a + S512x256.size a ≤ S1024x512.size a := by revert g; decide
/-- The `g`-th half of the rows of column half 0. -/
abbrev half (g : Fin 2) : Rect S1024x512 := Rect.unit (halfOff g) S512x256.size (half_inb g)

set_option maxRecDepth 8192 in
theorem dev_eqs (c : Dev nD) : k0_dev1 c = (pb c).val ∧ k0_dev2 c = (pg c).val ∧ k0_dev3 c = (pg c).val ∧ k0_dev4 c = (pb c).val
    ∧ k0_dev5 c = (pb c).val ∧ k0_dev6 c = (pg c).val ∧ k0_dev7 c = (pb c).val ∧ k0_dev8 c = (pg c).val
    ∧ k0_dev9 c = (pg c).val ∧ k0_dev10 c = (pb c).val ∧ k0_dev11 c = (pb c).val := by revert c; decide

theorem off1_eq (c : Dev nD) : k0_off1 c = blkOff (k5 (pg c)) 0 := by revert c; decide
theorem off2_eq (c : Dev nD) : k0_off2 c = blkOff (k6 (pg c)) 0 := by revert c; decide
theorem off3_eq (c : Dev nD) : k0_off3 c = blkOff (k7 (pb c)) 1 := by revert c; decide
theorem off4_eq (c : Dev nD) : k0_off4 c = blkOff (k8 (pb c)) 1 := by revert c; decide
theorem off5_eq (c : Dev nD) : k0_off5 c = blkOff (k5 c) 0 := by revert c; decide
theorem off6_eq (c : Dev nD) : k0_off6 c = blkOff (k6 c) 0 := by revert c; decide
theorem off7_eq (c : Dev nD) : k0_off7 c = blkOff (k7 c) 1 := by revert c; decide
theorem off8_eq (c : Dev nD) : k0_off8 c = blkOff (k8 c) 1 := by revert c; decide
theorem off9_eq (c : Dev nD) : k0_off9 c = blkOff (kown (pb c)) 0 := by revert c; decide
theorem off10_eq (c : Dev nD) : k0_off10 c = blkOff (kown (pg c)) 1 := by revert c; decide
theorem off11_eq (c : Dev nD) : k0_off11 c = blkOff (kown c) 0 := by revert c; decide
theorem off12_eq (c : Dev nD) : k0_off12 c = blkOff (kown c) 1 := by revert c; decide
theorem off13_eq (c : Dev nD) : k0_off13 c = blkOff (kown c) 0 := by revert c; decide
theorem off14_eq (c : Dev nD) : k0_off14 c = blkOff (kown c) 1 := by revert c; decide
theorem off15_eq (c : Dev nD) : k0_off15 c = halfOff (gh c) := by revert c; decide
theorem off16_eq (c : Dev nD) : k0_off16 c = blkOff (k7 c) 1 := by revert c; decide
theorem off17_eq (c : Dev nD) : k0_off17 c = blkOff (k8 c) 1 := by revert c; decide

/-! ## The memrefs and the cells -/

abbrev xM : Memref sig .tc .vmem S1024x512 .bf16 := Memref.whole cc0_stg0_0
abbrev oM : Memref sig .tc .vmem S1024x512 .bf16 := Memref.whole cc0_stg1_0
abbrev saM : Memref sig .tc .vmem S2x256x256 .bf16 := Memref.whole cc0_scratch0
abbrev sbM : Memref sig .tc .vmem S2x256x256 .bf16 := Memref.whole cc0_scratch1
abbrev raM : Memref sig .tc .vmem S2x256x256 .bf16 := Memref.whole cc0_scratch2
abbrev rbM : Memref sig .tc .vmem S2x256x256 .bf16 := Memref.whole cc0_scratch3
abbrev taM : Memref sig .tc .vmem S256x256 .bf16 := Memref.whole cc0_scratch4
abbrev tbM : Memref sig .tc .vmem S256x256 .bf16 := Memref.whole cc0_scratch5

/-- The barrier semaphore of the runtime. -/
abbrev barS : Sem sig := (SemArray.scalar (sig.barrier 0 rfl) : Sems sig S_).sem
theorem ds_lt (j : Fin 18) : 2 + j.val < 20 := by omega
/-- The kernel's own DMA semaphores: the nine send ones, then the nine receive ones. -/
def ds (j : Fin 18) : DmaSem sig := (⟨2 + j.val, ds_lt j⟩ : Fin 20)

theorem ds_inj {i j : Fin 18} (h : (SemLoc.dma (ds i) : SemLoc sig) = .dma (ds j)) : i = j := by revert i j; decide
theorem ds_ne_bar (j : Fin 18) : (SemLoc.dma (ds j) : SemLoc sig) ≠ .reg barS := fun h => by cases h

/-- The send and the receive semaphore of copy `j`, in the order in which the copies are enqueued. -/
def sj (j : Fin 9) : Fin 18 := ⟨j.val, by omega⟩
def rj (j : Fin 9) : Fin 18 := ⟨9 + j.val, by omega⟩

abbrev barCell (c : Dev nD) : GSem nD τ sig := ((c : Thread nD τ), .reg barS)
abbrev dCell (c : Dev nD) (j : Fin 18) : GSem nD τ sig := ((c : Thread nD τ), .dma (ds j))

/-- The device copy `j` goes to. -/
def dst (j : Fin 9) (c : Dev nD) : Dev nD := (![pg c, pb c, pb c, pg c, pb c, pg c, pg c, pb c, pb c] : Fin 9 → Dev nD) j
theorem dst_dst (j : Fin 9) (c : Dev nD) : dst j (dst j c) = c := by revert j c; decide
theorem dst_ne (j : Fin 9) (c : Dev nD) : dst j c ≠ c := by revert j c; decide
def dstE (j : Fin 9) : Dev nD ≃ Dev nD := ⟨dst j, dst j, dst_dst j, dst_dst j⟩

/-- The credits of the three sizes of copy. -/
abbrev N1 : ℕ := (taM : Memref sig .tc .vmem S256x256 .bf16).view.dmaCredit
abbrev N2 : ℕ := (raM : Memref sig .tc .vmem S2x256x256 .bf16).view.dmaCredit
abbrev NH : ℕ := ((oM : Memref sig .tc .vmem S1024x512 .bf16).access (half 0)).dmaCredit
/-- The credit of copy `j`. -/
def amt (j : Fin 9) : ℕ := (![N2, N2, N1, N1, N1, N1, NH, N1, N1] : Fin 9 → ℕ) j
theorem N1_pos : 0 < N1 := View.dmaCredit_pos _ (by decide)
theorem N2_pos : 0 < N2 := View.dmaCredit_pos _ (by decide)
theorem NH_pos : 0 < NH := View.dmaCredit_pos _ (by decide)
theorem amt_pos (j : Fin 9) : 0 < amt j := by
  unfold amt
  fin_cases j <;> first | exact N1_pos | exact N2_pos | exact NH_pos

/-! ## Contents -/

variable (F) in
/-- Contents of a `1024 x 512` buffer. -/
abbrev OC : Type := S1024x512.Idx → Elt F .bf16

/-- What rectangle `r` reads of a `1024 x 512` buffer. -/
def rd (r : Rect S1024x512) (f : OC F) : r.shape.Idx → Elt F .bf16 := fun j => f (r.emb j)

omit [FloatOps F] in
theorem x_read (r : Rect S1024x512) (f : OC F) : (xM.access r).read (Elt F) f = rd r f := rfl
omit [FloatOps F] in
theorem o_read (r : Rect S1024x512) (f : OC F) : (oM.access r).read (Elt F) f = rd r f := rfl

/-- Two row blocks `k0`, `k1` of column half `h` stacked, as they travel in the first exchange. -/
def pack (f : OC F) (k0 k1 : Fin 4) (h : Fin 2) : S2x256x256.Idx → Elt F .bf16 :=
  fun p => rd (blk (if (p 0).val = 0 then k0 else k1) h) f (fun a => p a.succ)

theorem slab_inb (t : Fin 2) : ∀ a, (![t.val, 0, 0] : Fin 3 → ℕ) a + S1x256x256.size a ≤ S2x256x256.size a := by revert t; decide
/-- The `t`-th of two stacked blocks. -/
abbrev slab (t : Fin 2) : Rect S2x256x256 := Rect.unit ![t.val, 0, 0] S1x256x256.size (slab_inb t)

/-- What rectangle `r` reads of a buffer of two stacked blocks. -/
def rd2 (r : Rect S2x256x256) (f : S2x256x256.Idx → Elt F .bf16) : r.shape.Idx → Elt F .bf16 := fun j => f (r.emb j)

omit [FloatOps F] in
theorem pack_slab (f : OC F) (k0 k1 : Fin 4) (h : Fin 2) (t : Fin 2) (j : S1x256x256.Idx) :
    rd2 (slab t) (pack f k0 k1 h) j = rd (blk (if t.val = 0 then k0 else k1) h) f (fun a => j a.succ) := by
  have hj : (j 0).val = 0 := by have h := (j 0).isLt; have e : S1x256x256.size 0 = 1 := rfl; omega
  have e0 : (((slab t).emb j) 0).val = t.val := by
    rw [Rect.emb_apply]; show t.val + 1 * (j 0).val = t.val; omega
  unfold rd2 pack
  rw [e0]
  refine congrArg _ (funext fun a => Fin.ext ?_)
  rw [Rect.emb_apply]
  match a with
  | ⟨0, _⟩ => show 0 + 1 * (j 1).val = (j 1).val; omega
  | ⟨1, _⟩ => show 0 + 1 * (j 2).val = (j 2).val; omega

/-- A block of `x`, recast, is what its place among the two stacked blocks is to hold. -/
theorem cast_slab (f : OC F) (k0 k1 : Fin 4) (h : Fin 2) (t : Fin 2) (k : Fin 4) (hk : (if t.val = 0 then k0 else k1) = k)
    (h₁ : S256x256.ShapeCasts S256x256) (h₂ : S256x256.ShapeCasts S1x256x256) :
    shapeCast S1x256x256 (shapeCast S256x256 (rd (blk k h) f) h₁) h₂ = rd2 (slab t) (pack f k0 k1 h) := by
  subst hk
  funext j
  rw [pack_slab]
  exact (shapeCast_addUnit_apply _ _ _ j).trans (congrFun (shapeCast_self _ h₁) _)

/-- A stacked block, recast, is the block. -/
theorem slab_cast (f : OC F) (k0 k1 : Fin 4) (h : Fin 2) (t : Fin 2) (k : Fin 4) (hk : (if t.val = 0 then k0 else k1) = k)
    (h₂ : S1x256x256.ShapeCasts S256x256) :
    shapeCast S256x256 (rd2 (slab t) (pack f k0 k1 h)) h₂ = rd (blk k h) f := by
  subst hk
  funext j
  refine (shapeCast_dropUnit_apply _ _ _ j).trans ?_
  rw [pack_slab]
  rfl

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of `x`, as it stands in the staging buffer. -/
def xs (c : Dev nD) : OC F := (win0_0.blk (0 : Fin 1)).view.read (Elt F) ((s₀ m ρ).mem ((c : Thread nD τ).loc main_arg0))

/-- The sums after the first exchange, in column halves 0 and 1, ... -/
def A1 (c : Dev nD) : OC F := addf (φ := .bf16) (s := S1024x512) (xs m ρ c) (xs m ρ (pg c))
def B1 (c : Dev nD) : OC F := addf (φ := .bf16) (s := S1024x512) (xs m ρ c) (xs m ρ (pb c))
/-- ... and after the second. -/
def A2 (c : Dev nD) : OC F := addf (φ := .bf16) (s := S1024x512) (A1 m ρ c) (A1 m ρ (pb c))
def B2 (c : Dev nD) : OC F := addf (φ := .bf16) (s := S1024x512) (B1 m ρ c) (B1 m ρ (pg c))

theorem row_lt (i : S1024x512.Idx) : (i 0).val / 256 < 4 := by
  have h := (i 0).isLt; have e : S1024x512.size 0 = 1024 := rfl; omega
/-- The result: every row block as the device that completes it has it. The same on every device. -/
def FIN : OC F := fun i =>
  if (i 1).val < 256 then A2 m ρ (own ⟨(i 0).val / 256, row_lt i⟩) i else B2 m ρ (own ⟨(i 0).val / 256, row_lt i⟩) i

/-- The contents of the six scratch buffers when they travel or have landed. -/
def SA (c : Dev nD) : S2x256x256.Idx → Elt F .bf16 := pack (xs m ρ c) (k5 (pg c)) (k6 (pg c)) 0
def SB (c : Dev nD) : S2x256x256.Idx → Elt F .bf16 := pack (xs m ρ c) (k7 (pb c)) (k8 (pb c)) 1
def RA (c : Dev nD) : S2x256x256.Idx → Elt F .bf16 := pack (xs m ρ (pg c)) (k5 c) (k6 c) 0
def RB (c : Dev nD) : S2x256x256.Idx → Elt F .bf16 := pack (xs m ρ (pb c)) (k7 c) (k8 c) 1
def TA (c : Dev nD) : S256x256.Idx → Elt F .bf16 := rd (blk (kown c) 0) (A1 m ρ (pb c))
def TB (c : Dev nD) : S256x256.Idx → Elt F .bf16 := rd (blk (kown c) 1) (B1 m ρ (pg c))

omit [FloatOps F] in
theorem SA_eq (c : Dev nD) : SA m ρ c = RA m ρ (pg c) := by unfold SA RA; rw [pg_pg]
omit [FloatOps F] in
theorem SB_eq (c : Dev nD) : SB m ρ c = RB m ρ (pb c) := by unfold SB RB; rw [pb_pb]

theorem mem_blk (k : Fin 4) (h : Fin 2) (i : S1024x512.Idx) :
    i ∈ (blk k h).set ↔ (i 0).val / 256 = k.val ∧ (i 1).val / 256 = h.val := by
  rw [Rect.mem_set_unit]
  constructor
  · intro H
    have a := H 0; have b := H 1
    have a' : 256 * k.val ≤ (i 0).val ∧ (i 0).val < 256 * k.val + 256 := a
    have b' : 256 * h.val ≤ (i 1).val ∧ (i 1).val < 256 * h.val + 256 := b
    omega
  · rintro ⟨h0, h1⟩ a
    match a with
    | ⟨0, _⟩ => show 256 * k.val ≤ (i 0).val ∧ (i 0).val < 256 * k.val + 256; omega
    | ⟨1, _⟩ => show 256 * h.val ≤ (i 1).val ∧ (i 1).val < 256 * h.val + 256; omega

theorem mem_half (g : Fin 2) (i : S1024x512.Idx) : i ∈ (half g).set ↔ (i 0).val / 512 = g.val ∧ (i 1).val / 256 = 0 := by
  rw [Rect.mem_set_unit]
  constructor
  · intro H
    have a := H 0; have b := H 1
    have a' : 512 * g.val ≤ (i 0).val ∧ (i 0).val < 512 * g.val + 512 := a
    have b' : 0 ≤ (i 1).val ∧ (i 1).val < 0 + 256 := b
    omega
  · rintro ⟨h0, h1⟩ a
    match a with
    | ⟨0, _⟩ => show 512 * g.val ≤ (i 0).val ∧ (i 0).val < 512 * g.val + 512; omega
    | ⟨1, _⟩ => show 0 ≤ (i 1).val ∧ (i 1).val < 0 + 256; omega

/-- On the block a device completes, the result is what that device has. -/
theorem fin_A (c : Dev nD) (i : S1024x512.Idx) (hi : i ∈ (blk (kown c) 0).set) : A2 m ρ c i = FIN m ρ i := by
  obtain ⟨h0, h1⟩ := (mem_blk _ _ _).mp hi
  have e : own ⟨(i 0).val / 256, row_lt i⟩ = c := (congrArg own (Fin.ext h0)).trans (own_kown c)
  unfold FIN
  have h1' : (i 1).val / 256 = 0 := h1
  rw [if_pos (by omega), e]
theorem fin_B (c : Dev nD) (i : S1024x512.Idx) (hi : i ∈ (blk (kown c) 1).set) : B2 m ρ c i = FIN m ρ i := by
  obtain ⟨h0, h1⟩ := (mem_blk _ _ _).mp hi
  have e : own ⟨(i 0).val / 256, row_lt i⟩ = c := (congrArg own (Fin.ext h0)).trans (own_kown c)
  unfold FIN
  have h1' : (i 1).val / 256 = 1 := h1
  rw [if_neg (by omega), e]

/-! ## Points-to facts -/

instance sepComm {M : Type} [URA M] : _root_.Std.Commutative (α := sProp M) BIBase.sep :=
  ⟨fun P Q => equiv_iff.mp ⟨BI.sep_comm, BI.sep_comm⟩⟩
instance sepAssoc {M : Type} [URA M] : _root_.Std.Associative (α := sProp M) BIBase.sep :=
  ⟨fun P Q R => equiv_iff.mp ⟨BI.sep_assoc, BI.sep_assoc'⟩⟩

/-- Rectangle `r` of device `c`'s output holds `f`. -/
def oPt (c : Dev nD) (r : Rect S1024x512) (f : OC F) : sProp 𝕄 :=
  (oM.access r).loc (c : Thread nD τ) ↦[(oM.access r).set]{fullShare} f
/-- Device `c`'s whole buffer `b` holds `f`. -/
def wPt (c : Dev nD) (b : Ref sig .tc) (f : Buf (Elt F) ((c : Thread nD τ).loc b)) : sProp 𝕄 :=
  ((c : Thread nD τ).loc b) ↦{fullShare} f

omit [FloatOps F] in
instance oPt_storable (c : Dev nD) (r) (f) : BI.Storable (upEmb : UEmb _ 𝕄) (oPt (F := F) c r f) := by unfold oPt; infer_instance
omit [FloatOps F] in
instance wPt_storable (c : Dev nD) (b) (f) : BI.Storable (upEmb : UEmb _ 𝕄) (wPt (F := F) c b f) := by unfold wPt; infer_instance

omit [FloatOps F] in
theorem oPt_eq (c : Dev nD) (r : Rect S1024x512) (f : OC F) :
    oPt c r f = (((c : Thread nD τ).loc cc0_stg1_0) ↦[r.set]{fullShare} f : sProp 𝕄) := by
  unfold oPt
  rw [show (oM.access r).set = r.set from View.set_slice_whole cc0_stg1_0 r]

omit [FloatOps F] in
theorem oPt_congr (c : Dev nD) (r : Rect S1024x512) {f g : OC F} (h : ∀ i ∈ r.set, f i = g i) : oPt c r f = oPt c r g := by
  rw [oPt_eq, oPt_eq]; exact pointsTo_congr h

omit [FloatOps F] in
/-- Writing on all of rectangle `r` what it reads of `g` leaves it holding `g`. -/
theorem oPt_write (c : Dev nD) (r : Rect S1024x512) (f g : OC F) :
    oPt c r ((oM.access r).write (Elt F) f (rd r g) Finset.univ) = oPt c r g := by
  unfold oPt
  refine pointsTo_congr fun i hi => ?_
  rw [← o_read, View.write_read_eq_piecewise, View.setOn_univ]
  exact Finset.piecewise_eq_of_mem _ _ _ hi

omit [FloatOps F] in
theorem half_eq (c : Dev nD) (g : Fin 2) (k k' : Fin 4) (hk : k.val = 2 * g.val) (hk' : k'.val = 2 * g.val + 1) (f : OC F) :
    oPt c (half g) f = iprop(oPt c (blk k 0) f ∗ oPt c (blk k' 0) f) := by
  have hd : Disjoint (blk k 0).set (blk k' 0).set := by
    rw [Finset.disjoint_left]; intro i hi hj
    have a := (mem_blk _ _ _).mp hi; have b := (mem_blk _ _ _).mp hj; omega
  have e := pointsTo_union (ℓ := (c : Thread nD τ).loc cc0_stg1_0) (q := fullShare) (f := f) (Ix := Unit) (Name := ℕ) (U := UU) (Lvl := ℕ) hd
  rw [oPt_eq, oPt_eq, oPt_eq, ← equiv_iff.mp ⟨e.1, e.2⟩]
  congr 1
  ext i
  rw [Finset.mem_union, mem_half, mem_blk, mem_blk]
  have z : ((0 : Fin 2)).val = 0 := rfl
  rw [z]
  omega

omit [FloatOps F] in
/-- The whole output is its eight blocks. -/
theorem whole_eq (c : Dev nD) (f : OC F) :
    wPt c cc0_stg1_0 f = iprop(oPt c (blk 0 0) f ∗ oPt c (blk 1 0) f ∗ oPt c (blk 2 0) f ∗ oPt c (blk 3 0) f
      ∗ oPt c (blk 0 1) f ∗ oPt c (blk 1 1) f ∗ oPt c (blk 2 1) f ∗ oPt c (blk 3 1) f) := by
  have hu : (Finset.univ : Finset S1024x512.Idx) = (Finset.univ : Finset (Fin 2 × Fin 4)).biUnion fun t => (blk t.2 t.1).set := by
    ext i
    refine ⟨fun _ => Finset.mem_biUnion.mpr ⟨(⟨(i 1).val / 256, ?_⟩, ⟨(i 0).val / 256, row_lt i⟩), Finset.mem_univ _, (mem_blk _ _ _).mpr ⟨rfl, rfl⟩⟩,
      fun _ => Finset.mem_univ _⟩
    have h := (i 1).isLt; have e : S1024x512.size 1 = 512 := rfl; omega
  have hd : ∀ t ∈ (Finset.univ : Finset (Fin 2 × Fin 4)), ∀ t' ∈ (Finset.univ : Finset (Fin 2 × Fin 4)), t ≠ t' →
      Disjoint (blk t.2 t.1).set (blk t'.2 t'.1).set := by
    intro t _ t' _ hne
    rw [Finset.disjoint_left]
    intro i hi hj
    have a := (mem_blk _ _ _).mp hi; have b := (mem_blk _ _ _).mp hj
    exact hne (Prod.ext (Fin.ext (a.2.symm.trans b.2)) (Fin.ext (a.1.symm.trans b.1)))
  have key : wPt c cc0_stg1_0 f = bigSep (Finset.univ : Finset (Fin 2 × Fin 4)) fun t => oPt c (blk t.2 t.1) f := by
    unfold wPt
    have e1 : (((c : Thread nD τ).loc cc0_stg1_0) ↦{fullShare} f : sProp 𝕄)
        = (((c : Thread nD τ).loc cc0_stg1_0) ↦[(Finset.univ : Finset (Fin 2 × Fin 4)).biUnion fun t => (blk t.2 t.1).set]{fullShare} f) :=
      congrArg (fun S : Finset S1024x512.Idx => (((c : Thread nD τ).loc cc0_stg1_0) ↦[S]{fullShare} f : sProp 𝕄)) hu
    refine e1.trans ?_
    have e2 := pointsTo_biUnion (ℓ := (c : Thread nD τ).loc cc0_stg1_0) (q := fullShare) (f := f) (Ix := Unit) (Name := ℕ) (U := UU) (Lvl := ℕ)
      (Finset.univ : Finset (Fin 2 × Fin 4)) (fun t => (blk t.2 t.1).set) hd
    refine e2.trans ?_
    exact congrArg _ (funext fun t => (oPt_eq c _ f).symm)
  rw [key, bigSep_univ_eq_bigSepL [((0 : Fin 2), (0 : Fin 4)), (0, 1), (0, 2), (0, 3), (1, 0), (1, 1), (1, 2), (1, 3)] (by decide) (by decide)]
  simp only [bigSepL_cons_cons, bigSepL_singleton]
  rfl

omit [FloatOps F] in
/-- The whole output as what the device keeps, and what it hands to `pg c` (a half of column half 0) and to `pb c` (two blocks of column half 1). -/
theorem whole_cut (c : Dev nD) (f : OC F) :
    wPt c cc0_stg1_0 f = iprop(oPt c (half (gh c)) f ∗ oPt c (blk (k7 c) 1) f ∗ oPt c (blk (k8 c) 1) f
      ∗ oPt c (half (gh (pg c))) f ∗ oPt c (blk (k7 (pb c)) 1) f ∗ oPt c (blk (k8 (pb c)) 1) f) := by
  rw [whole_eq, half_eq c (gh c) (k5 c) (k6 c) (by revert c; decide) (by revert c; decide),
    half_eq c (gh (pg c)) (k5 (pg c)) (k6 (pg c)) (by revert c; decide) (by revert c; decide)]
  have h : ∀ d : Dev nD, d = 0 ∨ d = 1 ∨ d = 2 ∨ d = 3 := by decide
  rcases h c with h | h | h | h
  · rw [show k5 c = 0 by subst h; rfl, show k6 c = 1 by subst h; rfl, show k5 (pg c) = 2 by subst h; rfl, show k6 (pg c) = 3 by subst h; rfl,
      show k7 c = 0 by subst h; rfl, show k8 c = 2 by subst h; rfl, show k7 (pb c) = 1 by subst h; rfl, show k8 (pb c) = 3 by subst h; rfl]
    ac_rfl
  · rw [show k5 c = 0 by subst h; rfl, show k6 c = 1 by subst h; rfl, show k5 (pg c) = 2 by subst h; rfl, show k6 (pg c) = 3 by subst h; rfl,
      show k7 c = 1 by subst h; rfl, show k8 c = 3 by subst h; rfl, show k7 (pb c) = 0 by subst h; rfl, show k8 (pb c) = 2 by subst h; rfl]
    ac_rfl
  · rw [show k5 c = 2 by subst h; rfl, show k6 c = 3 by subst h; rfl, show k5 (pg c) = 0 by subst h; rfl, show k6 (pg c) = 1 by subst h; rfl,
      show k7 c = 1 by subst h; rfl, show k8 c = 3 by subst h; rfl, show k7 (pb c) = 0 by subst h; rfl, show k8 (pb c) = 2 by subst h; rfl]
    ac_rfl
  · rw [show k5 c = 2 by subst h; rfl, show k6 c = 3 by subst h; rfl, show k5 (pg c) = 0 by subst h; rfl, show k6 (pg c) = 1 by subst h; rfl,
      show k7 c = 0 by subst h; rfl, show k8 c = 2 by subst h; rfl, show k7 (pb c) = 1 by subst h; rfl, show k8 (pb c) = 3 by subst h; rfl]
    ac_rfl

omit [FloatOps F] in
/-- The half the device keeps, by the block it completes and the one `pb c` does. -/
theorem half_own (c : Dev nD) (f : OC F) : oPt c (half (gh c)) f = iprop(oPt c (blk (kown c) 0) f ∗ oPt c (blk (kown (pb c)) 0) f) := by
  have h : ∀ d : Dev nD, ((kown d).val = 2 * (gh d).val ∧ (kown (pb d)).val = 2 * (gh d).val + 1)
      ∨ ((kown (pb d)).val = 2 * (gh d).val ∧ (kown d).val = 2 * (gh d).val + 1) := by decide
  rcases h c with ⟨h0, h1⟩ | ⟨h0, h1⟩
  · exact half_eq c _ _ _ h0 h1 f
  · rw [half_eq c _ _ _ h0 h1 f]; ac_rfl

omit [FloatOps F] in
theorem half_56 (c : Dev nD) (f : OC F) : oPt c (half (gh c)) f = iprop(oPt c (blk (k5 c) 0) f ∗ oPt c (blk (k6 c) 0) f) :=
  half_eq c _ _ _ (by revert c; decide) (by revert c; decide) f

omit [FloatOps F] in
/-- The two blocks of column half 1 the device keeps, by the block it completes and the one `pg c` does. -/
theorem blk_78 (c : Dev nD) (f : OC F) : iprop(oPt c (blk (k7 c) 1) f ∗ oPt c (blk (k8 c) 1) f)
    = iprop(oPt c (blk (kown c) 1) f ∗ oPt c (blk (kown (pg c)) 1) f) := by
  have h : ∀ d : Dev nD, (k7 d = kown d ∧ k8 d = kown (pg d)) ∨ (k8 d = kown d ∧ k7 d = kown (pg d)) := by decide
  rcases h c with ⟨h0, h1⟩ | ⟨h0, h1⟩
  · rw [h0, h1]
  · rw [h0, h1]; ac_rfl

end Cert.KernelIdealProof

end
-- ==== Proof.KernelIdeal.Sched.lean ====
/-
The schedule of the kernel's semaphores: one round per cell. A device's barrier cell has two duties of one unit, paid by
its two neighbours, and each of its eighteen DMA cells one duty of the copy's credit. What a landing hands over is stated
with its contents.
-/
module

public import proofs.«01_k».proof.Proof.KernelIdeal.Base

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads -/

/-- What the two neighbours hand device `c` on its barrier: `pb c` (duty `true`) the places of the copies `c` sends to
    it, and `pg c` (duty `false`) likewise. -/
def barPay (c : Dev nD) (d : Bool) : sProp 𝕄 :=
  if d then iprop((∃ f, wPt (pb c) cc0_scratch3 f) ∗ (∃ f, wPt (pb c) cc0_scratch4 f)
    ∗ (∃ f, oPt (pb c) (blk (k7 c) 1) f) ∗ ∃ f, oPt (pb c) (blk (k8 c) 1) f)
  else iprop((∃ f, wPt (pg c) cc0_scratch2 f) ∗ (∃ f, wPt (pg c) cc0_scratch5 f) ∗ ∃ f, oPt (pg c) (half (gh c)) f)

/-- What the completion of a DMA semaphore of device `c` hands it: of a send the source, unless it travels with the
    landing; of a receive the place at what has landed there. -/
def dPay (c : Dev nD) (j : Fin 18) : sProp 𝕄 :=
  (![iprop(∃ f, wPt c cc0_scratch0 f), iprop(∃ f, wPt c cc0_scratch1 f), iprop(emp), iprop(emp),
     oPt c (blk (kown c) 0) (FIN m ρ), oPt c (blk (kown c) 1) (FIN m ρ), oPt c (half (gh c)) (FIN m ρ),
     oPt c (blk (k7 c) 1) (FIN m ρ), oPt c (blk (k8 c) 1) (FIN m ρ),
     wPt c cc0_scratch2 (RA m ρ c), wPt c cc0_scratch3 (RB m ρ c),
     iprop(wPt c cc0_scratch4 (TA m ρ c) ∗ oPt (pb c) (blk (kown c) 0) (A1 m ρ (pb c))),
     iprop(wPt c cc0_scratch5 (TB m ρ c) ∗ oPt (pg c) (blk (kown c) 1) (B1 m ρ (pg c))),
     oPt c (blk (kown (pb c)) 0) (FIN m ρ), oPt c (blk (kown (pg c)) 1) (FIN m ρ), oPt c (half (gh (pg c))) (FIN m ρ),
     oPt c (blk (k7 (pb c)) 1) (FIN m ρ), oPt c (blk (k8 (pb c)) 1) (FIN m ρ)] : Fin 18 → sProp 𝕄) j

omit [FloatOps F] in
instance barPay_storable (c : Dev nD) (d : Bool) : BI.Storable (upEmb : UEmb _ 𝕄) (barPay (F := F) c d) := by
  unfold barPay; split <;> infer_instance
instance dPay_storable (c : Dev nD) (j : Fin 18) : BI.Storable (upEmb : UEmb _ 𝕄) (dPay (F := F) m ρ c j) := by
  unfold dPay
  fin_cases j <;> dsimp <;> infer_instance

/-- The credit of a DMA semaphore. -/
def dAmt (j : Fin 18) : ℕ := amt ⟨j.val % 9, Nat.mod_lt _ (by decide)⟩
theorem dAmt_pos (j : Fin 18) : 0 < dAmt j := amt_pos _
theorem dAmt_sj (j : Fin 9) : dAmt (sj j) = amt j := congrArg amt (Fin.ext (Nat.mod_eq_of_lt j.isLt))
theorem dAmt_rj (j : Fin 9) : dAmt (rj j) = amt j := congrArg amt (Fin.ext (by
  show (9 + j.val) % 9 = j.val; have := j.isLt; omega))

/-- The place of a DMA semaphore among the kernel's own. -/
def dIx (q : DmaSem sig) : Fin 18 := ⟨(q : Fin 20).val - 2, by have : (q : Fin 20).val < 20 := (q : Fin 20).isLt; omega⟩
theorem dIx_ds (j : Fin 18) : dIx (ds j) = j := by revert j; decide

/-! ## The schedule -/

def dutiesOf (g : GSem nD τ sig) : Finset Bool := match g.2 with | .reg _ => Finset.univ | .dma _ => {false}
def amountOf (g : GSem nD τ sig) : ℕ := match g.2 with | .reg _ => 1 | .dma q => dAmt (dIx q)
def payloadOf (g : GSem nD τ sig) (d : Bool) : sProp 𝕄 := match g.2 with | .reg _ => barPay g.1.1 d | .dma q => dPay m ρ g.1.1 (dIx q)

def Rd : Rounds.Schedule (GSem nD τ sig) Bool 𝕄 where
  duties g r := if r = 0 then dutiesOf g else ∅
  unitless _ := False
  amount g _ _ := amountOf g
  payload g _ d := payloadOf m ρ g d
  amount_pos g _ _ _ := by
    unfold amountOf
    split
    · exact Nat.one_pos
    · exact dAmt_pos _

instance Rd_payload_storable (g : GSem nD τ sig) (r : ℕ) (d : Bool) :
    BI.Storable (upEmb : UEmb _ 𝕄) ((Rd (F := F) m ρ).payload g r d) := by
  show BI.Storable upEmb (payloadOf m ρ g d)
  unfold payloadOf
  split <;> infer_instance

section Sched
variable (c : Dev nD) (j : Fin 18)

theorem duties_bar : (Rd (F := F) m ρ).duties (barCell c) 0 = Finset.univ := rfl
theorem duties_d : (Rd (F := F) m ρ).duties (dCell c j) 0 = {false} := rfl
theorem duties_later (g : GSem nD τ sig) : ∀ r, 1 ≤ r → (Rd (F := F) m ρ).duties g r = ∅ :=
  fun r hr => if_neg (by omega)
theorem amount_bar (d : Bool) : (Rd (F := F) m ρ).amount (barCell c) 0 d = 1 := rfl
theorem amount_d (d : Bool) : (Rd (F := F) m ρ).amount (dCell c j) 0 d = dAmt j := congrArg dAmt (dIx_ds j)
theorem payload_bar (d : Bool) : (Rd (F := F) m ρ).payload (barCell c) 0 d = barPay c d := rfl
theorem payload_d (d : Bool) : (Rd (F := F) m ρ).payload (dCell c j) 0 d = dPay m ρ c j := congrArg (dPay m ρ c) (dIx_ds j)

theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_d : (Rd (F := F) m ρ).expect (dCell c j) 0 = dAmt j := by
  unfold Schedule.expect Schedule.amountOf; rw [duties_d, Finset.sum_singleton, amount_d]

theorem rest_bar : bigSep ((Rd (F := F) m ρ).duties (barCell c) 0 \ ∅) (fun d => (Rd (F := F) m ρ).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_d : bigSep ((Rd (F := F) m ρ).duties (dCell c j) 0 \ ∅) (fun d => (Rd (F := F) m ρ).payload (dCell c j) 0 d) = dPay m ρ c j := by
  rw [Finset.sdiff_empty, duties_d, bigSep_singleton, payload_d]

end Sched

/-! ## What each device owes; the levels -/

/-- The receive cell that copy `j` of device `c` lands on. -/
abbrev rcv (j : Fin 9) (c : Dev nD) : GSem nD τ sig := dCell (dst j c) (rj j)

theorem rev_lt (n : ℕ) : 8 - n < 9 := by omega
/-- What device `c` owes when `n` of its copies are still to be enqueued: their credits on the cells they land on. -/
def OR (c : Dev nD) : ℕ → CellTallies nD τ sig Unit
  | 0 => 0
  | n + 1 => OR c n + tallyAt (rcv ⟨8 - n, rev_lt n⟩ c) () (amt ⟨8 - n, rev_lt n⟩)
/-- At launch also a unit on the barrier of each neighbour. -/
def OB (c : Dev nD) : CellTallies nD τ sig Unit := OR c 9 + tallyAt (barCell (pg c)) () 1
def O₀ (c : Dev nD) : CellTallies nD τ sig Unit := OB c + tallyAt (barCell (pb c)) () 1

theorem OR_succ (c : Dev nD) (n : ℕ) (j : Fin 9) (h : j.val = 8 - n) :
    OR c (n + 1) = OR c n + tallyAt (rcv j c) () (amt j) := by
  have : j = ⟨8 - n, rev_lt n⟩ := Fin.ext h
  subst this; rfl

def L (g : GSem nD τ sig) : Finset Unit := if g.1.2 = .tc then {()} else ∅
/-- The levels of the DMA semaphores, by number. -/
def dlv (q : Fin 20) : ℕ := (![0, 0, 0, 0, 0, 0, 0, 0, 0, 0, 0, 2, 2, 3, 3, 4, 4, 5, 5, 5] : Fin 20 → ℕ) q
/-- Barrier cells at 1, the receive cells of the four exchanges at 2 to 5, everything else at 0. -/
def lv (g : GSem nD τ sig) (_ : Unit) : ℕ := match g.2 with | .reg _ => 1 | .dma q => dlv q

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

theorem OR_pos {c : Dev nD} {g : GSem nD τ sig} {u : Unit} : ∀ {n : ℕ}, 0 < OR c n g u → ∃ j : Fin 9, 9 - n ≤ j.val ∧ g = rcv j c
  | 0, h => absurd h (Nat.lt_irrefl 0)
  | n + 1, h => by
    have h' : 0 < OR c n g u + tallyAt (rcv ⟨8 - n, rev_lt n⟩ c) () (amt ⟨8 - n, rev_lt n⟩) g u := h
    rcases Nat.eq_zero_or_pos (OR c n g u) with h0 | h0
    · rw [h0, Nat.zero_add] at h'
      exact ⟨⟨8 - n, rev_lt n⟩, by show 9 - (n + 1) ≤ 8 - n; omega, tally_pos h'⟩
    · obtain ⟨j, hj, e⟩ := OR_pos h0
      exact ⟨j, by omega, e⟩

theorem O₀_pos {c : Dev nD} {g : GSem nD τ sig} {u : Unit} (h : 0 < O₀ c g u) :
    (∃ j : Fin 9, g = rcv j c) ∨ ∃ d, g = barCell d := by
  have h' : 0 < OR c 9 g u + tallyAt (barCell (pg c)) () 1 g u + tallyAt (barCell (pb c)) () 1 g u := h
  rcases Nat.eq_zero_or_pos (tallyAt (barCell (pb c)) () 1 g u) with h0 | h0
  · rcases Nat.eq_zero_or_pos (tallyAt (barCell (pg c)) () 1 g u) with h1 | h1
    · rw [h0, h1] at h'
      have h'' : 0 < OR c 9 g u := h'
      obtain ⟨j, _, e⟩ := OR_pos h''
      exact .inl ⟨j, e⟩
    · exact .inr ⟨_, tally_pos h1⟩
  · exact .inr ⟨_, tally_pos h0⟩

theorem lv_rcv (c : Dev nD) (j : Fin 9) (u : Unit) : lv (rcv j c) u = (![2, 2, 3, 3, 4, 4, 5, 5, 5] : Fin 9 → ℕ) j := by
  show dlv (ds (rj j)) = _
  revert j; decide

omit [FloatOps F] in
/-- A device may wait on a cell whose level is below those of all the copies it has still to enqueue. -/
theorem mayWait_OR (c : Dev nD) (sm : SemLoc sig) (n cut : ℕ) (h : lv ((c : Thread nD τ), sm) () ≤ cut)
    (hc : ∀ j : Fin 9, 9 - n ≤ j.val → cut < (![2, 2, 3, 3, 4, 4, 5, 5, 5] : Fin 9 → ℕ) j) :
    (levAts L lv : sProp 𝕄) ⊢ MayWait (c : Thread nD τ) sm () (OR c n) :=
  MayOwe.of_cut (L := L) (lev := lv) cut (fun p hp => by rw [Finset.mem_singleton.mp hp, L_tc]; exact Finset.mem_singleton_self _)
    (fun g u hg => by obtain ⟨j, _, rfl⟩ := OR_pos hg; exact Finset.mem_singleton_self _)
    (fun p hp => by rw [Finset.mem_singleton.mp hp]; exact h)
    (fun g u hg => by obtain ⟨j, hj, rfl⟩ := OR_pos hg; rw [lv_rcv]; exact hc j hj)

omit [FloatOps F] in
/-- The pipeline's own waits, on the staging semaphores: at what is owed at launch, and at nothing. -/
theorem mayWait_stage (c : Dev nD) (q : DmaSem sig) (hq : dlv q = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨d, rfl⟩ <;> exact Finset.mem_singleton_self _)
      (fun p hp => by rw [Finset.mem_singleton.mp hp]; exact hq.le)
      (fun g u hg => by
        rcases O₀_pos hg with ⟨j, rfl⟩ | ⟨d, rfl⟩
        · rw [lv_rcv]; clear hg; revert j; decide
        · exact Nat.one_pos)
  · rw [MayWait_zero]; iintro -; iempintro

end Cert.KernelIdealProof

end
-- ==== Proof.KernelIdeal.Rules.lean ====
/-
The rules of the kernel's operations at its own cells and buffers: a wait on one of its semaphores, a signal of a
neighbour's barrier, a copy to a neighbour, and the loads and stores of its buffers.
-/
module

public import proofs.«01_k».proof.Proof.KernelIdeal.Sched

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- An entailment of the logic as the proof mode takes it. -/
theorem ent {P Q : sProp 𝕄} (h : Idealize.SL.BI.Entails P Q) : P ⊢ Q := h

/-! ## The cells' records -/

/-- The kernel's cells on a device: its barrier and its eighteen DMA semaphores. -/
abbrev csem : Option (Fin 18) → SemLoc sig := fun | none => .reg barS | some j => .dma (ds j)
abbrev kcell (ck : Dev nD × Option (Fin 18)) : GSem nD τ sig := ((ck.1 : Thread nD τ), csem ck.2)

/-- What every device knows: the invariants of all the cells under the names `K`, that all are at round 0 at least, and the levels. -/
def env (K : Dev nD × Option (Fin 18) → ℕ) : sProp 𝕄 :=
  iprop((bigSep Finset.univ fun ck : Dev nD × Option (Fin 18) => cellInv ER (Rd m ρ) (K ck) (kcell ck))
    ∗ (bigSep Finset.univ fun ck : Dev nD × Option (Fin 18) => reached ER (kcell ck) 0) ∗ levAts L lv)

instance env_persistent (K : Dev nD × Option (Fin 18) → ℕ) : BI.Persistent (env (F := F) m ρ K) := by unfold env; infer_instance

variable (K : Dev nD × Option (Fin 18) → ℕ)

theorem env_inv (ck : Dev nD × Option (Fin 18)) : env m ρ K ⊢ cellInv ER (Rd m ρ) (K ck) (kcell ck) := by
  unfold env; iintro ⟨H, -, -⟩
  ihave H' := (ent (bigSep_elim (Φ := fun ck : Dev nD × Option (Fin 18) => cellInv ER (Rd m ρ) (K ck) (kcell ck)) (Finset.mem_univ ck))) $$ H
  iexact H'
theorem env_reached (ck : Dev nD × Option (Fin 18)) : env m ρ K ⊢ (reached ER (kcell ck) 0 : sProp 𝕄) := by
  unfold env; iintro ⟨-, H, -⟩
  ihave H' := (ent (bigSep_elim (Φ := fun ck : Dev nD × Option (Fin 18) => (reached ER (kcell ck) 0 : sProp 𝕄)) (Finset.mem_univ ck))) $$ H
  iexact H'
theorem env_lev : env m ρ K ⊢ (levAts L lv : sProp 𝕄) := by
  unfold env; iintro ⟨-, -, H⟩; iexact H

/-- What the device owes when `n` of its copies are still to be enqueued. -/
def Ow (c : Dev nD) (n : ℕ) : sProp 𝕄 := iprop(∃ W, owes (c : Thread nD τ) (OR c n) W)

/-! ## Semaphores and copies -/

/-- A wait on one of the device's own DMA cells, for all of its round: what the completion hands over comes with it. -/
theorem wait_d (c : Dev nD) (j : Fin 18) (n : ℕ) {sS : DmaSem sig} (hS : sS = ds j) {sp sp' : Space} {s s' : Shape} {e e' : EltTy}
    {src : Memref sig .tc sp' s' e'} {dst : Memref sig .tc sp s e} {hs : src.view.WordExact} {hd : dst.view.WordExact}
    (hN : dst.view.dmaCredit = dAmt j)
    (hc : ∀ i : Fin 9, 9 - n ≤ i.val → dlv (ds j) < (![2, 2, 3, 3, 4, 4, 5, 5, 5] : Fin 9 → ℕ) i)
    {α : Type} {Q : α → sProp 𝕄} {k : PUnit → Prog (TpuEff nD τ sig (Elt F) Λ₀ .tc) α} :
    iprop(env m ρ K ∗ cred (tallyAt (dCell c j) () (dAmt j)) ∗ Ow c n ∗ atPos ER (dCell c j) 0 ∅ 0)
      ⊢ iprop(((Ow c n ∗ atPos ER (dCell c j) 1 ∅ 0 ∗ dPay m ρ c j) -∗ WP c (k ⟨⟩) Q)
          -∗ WP c (.op (.waitDma2 sS src dst hs hd) k) Q) := by
  subst hS
  unfold Ow
  iintro ⟨#He, Hc, ⟨%W, HO⟩, Hat⟩ Hk
  iapply (Rounds.wp_wait_rest_token 𝒱₀ ER (Rd m ρ) (c : Thread nD τ) none (κ := K (c, some j))
      (wpE_waitDma2_eq 𝒱₀ (c : Thread nD τ) none Set.univ) (Set.mem_univ _) () (O := OR c n) (W := W) (R := 0) (m := 0) (T := ∅)
      (by rw [Nat.zero_add, hN]; exact (expect_d m ρ c j).symm)) $$ [Hc HO Hat]
  · isplitr; · iapply (env_inv m ρ K (c, some j)); iexact He
    isplitl [Hc]; · rw [hN]; iexact Hc
    isplitl [HO]; · iexact HO
    isplitr; · iapply (mayWait_OR c (.dma (ds j)) n (dlv (ds j)) le_rfl hc); iapply (env_lev m ρ K); iexact He
    iexact Hat
  iintro ⟨HO, Hat, -, Hpay⟩
  iapply Hk
  isplitl [HO]; · iexists _; iexact HO
  isplitl [Hat]; · iexact Hat
  iapply (Entails.of_eq (rest_d m ρ c j)); iexact Hpay

/-- The wait on the barrier, for both neighbours' units. -/
theorem wait_bar (c : Dev nD) {α : Type} {Q : α → sProp 𝕄} {k : PUnit → Prog (TpuEff nD τ sig (Elt F) Λ₀ .tc) α} {n : ℕ} (hn : n = 2) :
    iprop(env m ρ K ∗ cred (tallyAt (barCell c) () 2) ∗ Ow c 9 ∗ atPos ER (barCell c) 0 ∅ 0)
      ⊢ iprop(((Ow c 9 ∗ atPos ER (barCell c) 1 ∅ 0 ∗ barPay c false ∗ barPay c true) -∗ WP c (k ⟨⟩) Q)
          -∗ WP c (.op (.semWait barS n) k) Q) := by
  subst hn
  unfold Ow
  iintro ⟨#He, Hc, ⟨%W, HO⟩, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := OR c 9) (W := W) (R := 0) (m := 0) (T := ∅)
      (by rw [Nat.zero_add]; exact (expect_bar m ρ c).symm)) $$ [Hc HO Hat]
  · isplitr; · iapply (env_inv m ρ K (c, none)); iexact He
    isplitl [Hc]; · iexact Hc
    isplitl [HO]; · iexact HO
    isplitr; · iapply (mayWait_OR c (.reg barS) 9 1 le_rfl (by decide)); iapply (env_lev m ρ K); iexact He
    iexact Hat
  iintro ⟨HO, Hat, -, Hpay⟩
  iapply Hk
  isplitl [HO]; · iexists _; iexact HO
  isplitl [Hat]; · iexact Hat
  iapply (Entails.of_eq (rest_bar m ρ c)); iexact Hpay

/-- A unit on the barrier of device `d`, paying its duty `b`. -/
theorem signal (c d n : Dev nD) (hn : n = d) (b : Bool) {k' : ℕ} (hk : k' = 1) {O₁ : CellTallies nD τ sig Unit} (O : CellTallies nD τ sig Unit)
    (hO : O₁ = O + tallyAt (barCell d) () 1) {W : Waits sig Unit} {α : Type} {Q : α → sProp 𝕄}
    {k : PUnit → Prog (TpuEff nD τ sig (Elt F) Λ₀ .tc) α} :
    iprop(env m ρ K ∗ owes (c : Thread nD τ) O₁ W ∗ dutyTok ER (barCell d) 0 b ∗ barPay d b)
      ⊢ iprop((owes (c : Thread nD τ) O W -∗ WP c (k ⟨⟩) Q) -∗ WP c (.op (.semSignal (n : Thread nD τ) barS k') k) Q) := by
  subst hn; subst hk
  iintro ⟨#He, HO, Ht, Hp⟩ Hk
  iapply (Rounds.wp_signal 𝒱₀ ER (Rd m ρ) (c : Thread nD τ) none (dst := (n : Thread nD τ)) (κ := K (n, none))
      (d := b) (by rw [duties_bar]; exact Finset.mem_univ _) (amount_bar m ρ n b) () O hO) $$ [HO Ht Hp]
  · isplitr; · iapply (env_inv m ρ K (n, none)); iexact He
    isplitl [HO]; · iexact HO
    isplitl [Ht]; · iexact Ht
    isplitl [Hp]; · rw [payload_bar]; iexact Hp
    iapply (env_reached m ρ K (n, none)); iexact He
  iexact Hk

/-- Copy `j`, its source to come back with the send's completion. -/
theorem snd (c d : Dev nD) (j : Fin 9) (n : ℕ) (hn : j.val = 8 - n) (hd : d = dst j c) {sS sR : DmaSem sig} (hS : sS = ds (sj j)) (hR : sR = ds (rj j))
    {s : Shape} {src dstm : Memref sig .tc .vmem s .bf16} {hsc : (dstm : Memref sig (Dev.tc d : Thread nD τ).2.kind .vmem s .bf16).view.ref.isScScratch = false}
    {hsrc : src.view.WordExact} {hdst : dstm.view.WordExact}
    {hsem : DmaTarget.Typed .vmem (.dma sR) (.remote (Dev.tc d : Thread nD τ) dstm (.dma sS) hsc)}
    (hN : dstm.view.dmaCredit = amt j)
    (fs : Buf (Elt F) (src.view.loc (c : Thread nD τ))) (fd : Buf (Elt F) (dstm.view.loc (dst j c : Thread nD τ)))
    (h₁ : (src.view.loc (c : Thread nD τ) ↦[src.view.set]{fullShare} fs : sProp 𝕄) ⊢ dPay m ρ c (sj j))
    (h₂ : (dstm.view.loc (dst j c : Thread nD τ) ↦[dstm.view.set]{fullShare} (dstm.view.write (Elt F) fd (src.view.read (Elt F) fs) Finset.univ) : sProp 𝕄)
      ⊢ dPay m ρ (dst j c) (rj j))
    {α : Type} {Q : α → sProp 𝕄} {k : PUnit → Prog (TpuEff nD τ sig (Elt F) Λ₀ .tc) α} :
    iprop(env m ρ K ∗ (src.view.loc (c : Thread nD τ) ↦[src.view.set]{fullShare} fs)
        ∗ (dstm.view.loc (dst j c : Thread nD τ) ↦[dstm.view.set]{fullShare} fd)
        ∗ Ow c (n + 1) ∗ dutyTok ER (dCell c (sj j)) 0 false ∗ dutyTok ER (rcv j c) 0 false)
      ⊢ iprop(((cred (tallyAt (dCell c (sj j)) () (dAmt (sj j))) ∗ Ow c n) -∗ WP c (k ⟨⟩) Q)
          -∗ WP c (.op (.enqueueDma src (.remote (Dev.tc d : Thread nD τ) dstm (.dma sS) hsc) (.dma sR) hsrc hdst hsem) k) Q) := by
  subst hd; subst hS; subst hR
  unfold Ow
  iintro ⟨#He, Hs, Hd, ⟨%W, HO⟩, Ht₁, Ht₂⟩ Hk
  iapply (Rounds.wp_send_pointsTo 𝒱₀ ER (Rd m ρ) (c : Thread nD τ) none (κ₁ := K (c, some (sj j))) (κ₂ := K (dst j c, some (rj j)))
    (r₁ := 0) (r₂ := 0) (d₁ := false) (d₂ := false) (fs := fs) (fd := fd)
    (by rw [duties_d]; exact Finset.mem_singleton_self _) (by rw [duties_d]; exact Finset.mem_singleton_self _)
    () () (amt j) (show dstm.view.amount (.dma (ds (rj j))) = amt j from hN) ((amount_d m ρ c (sj j) false).trans (dAmt_sj j)) ((amount_d m ρ (dst j c) (rj j) false).trans (dAmt_rj j)) (OR c n)
    (OR_succ c n j hn) (W := W)
    (by rw [payload_d]; exact h₁) (by rw [payload_d]; exact h₂)) $$ [Hs Hd HO Ht₁ Ht₂]
  · isplitr; · iapply (env_inv m ρ K (c, some (sj j))); iexact He
    isplitr; · iapply (env_inv m ρ K (dst j c, some (rj j))); iexact He
    isplitl [Hs]; · iexact Hs
    isplitl [Hd]; · iexact Hd
    isplitl [HO]; · iexact HO
    isplitl [Ht₁]; · iexact Ht₁
    isplitr; · iapply (env_reached m ρ K (c, some (sj j))); iexact He
    isplitl [Ht₂]; · iexact Ht₂
    iapply (env_reached m ρ K (dst j c, some (rj j))); iexact He
  iintro ⟨Hc, HO⟩
  iapply Hk
  isplitl [Hc]; · rw [dAmt_sj]; iexact Hc
  iexists _; iexact HO

/-- Copy `j`, its source to travel with the landing. -/
theorem snd_landing (c d : Dev nD) (j : Fin 9) (n : ℕ) (hn : j.val = 8 - n) (hd : d = dst j c) {sS sR : DmaSem sig} (hS : sS = ds (sj j)) (hR : sR = ds (rj j))
    {s : Shape} {src dstm : Memref sig .tc .vmem s .bf16} {hsc : (dstm : Memref sig (Dev.tc d : Thread nD τ).2.kind .vmem s .bf16).view.ref.isScScratch = false}
    {hsrc : src.view.WordExact} {hdst : dstm.view.WordExact}
    {hsem : DmaTarget.Typed .vmem (.dma sR) (.remote (Dev.tc d : Thread nD τ) dstm (.dma sS) hsc)}
    (hN : dstm.view.dmaCredit = amt j)
    (fs : Buf (Elt F) (src.view.loc (c : Thread nD τ))) (fd : Buf (Elt F) (dstm.view.loc (dst j c : Thread nD τ)))
    (h₁ : (emp : sProp 𝕄) ⊢ dPay m ρ c (sj j))
    (h₂ : iprop((dstm.view.loc (dst j c : Thread nD τ) ↦[dstm.view.set]{fullShare} (dstm.view.write (Elt F) fd (src.view.read (Elt F) fs) Finset.univ))
        ∗ (src.view.loc (c : Thread nD τ) ↦[src.view.set]{fullShare} fs) : sProp 𝕄)
      ⊢ dPay m ρ (dst j c) (rj j))
    {α : Type} {Q : α → sProp 𝕄} {k : PUnit → Prog (TpuEff nD τ sig (Elt F) Λ₀ .tc) α} :
    iprop(env m ρ K ∗ (src.view.loc (c : Thread nD τ) ↦[src.view.set]{fullShare} fs)
        ∗ (dstm.view.loc (dst j c : Thread nD τ) ↦[dstm.view.set]{fullShare} fd)
        ∗ Ow c (n + 1) ∗ dutyTok ER (dCell c (sj j)) 0 false ∗ dutyTok ER (rcv j c) 0 false)
      ⊢ iprop(((cred (tallyAt (dCell c (sj j)) () (dAmt (sj j))) ∗ Ow c n) -∗ WP c (k ⟨⟩) Q)
          -∗ WP c (.op (.enqueueDma src (.remote (Dev.tc d : Thread nD τ) dstm (.dma sS) hsc) (.dma sR) hsrc hdst hsem) k) Q) := by
  subst hd; subst hS; subst hR
  unfold Ow
  iintro ⟨#He, Hs, Hd, ⟨%W, HO⟩, Ht₁, Ht₂⟩ Hk
  iapply (Rounds.wp_send_landing_pointsTo 𝒱₀ ER (Rd m ρ) (c : Thread nD τ) none (κ₁ := K (c, some (sj j))) (κ₂ := K (dst j c, some (rj j)))
    (r₁ := 0) (r₂ := 0) (d₁ := false) (d₂ := false) (fs := fs) (fd := fd)
    (by rw [duties_d]; exact Finset.mem_singleton_self _) (by rw [duties_d]; exact Finset.mem_singleton_self _)
    () () (amt j) (show dstm.view.amount (.dma (ds (rj j))) = amt j from hN) ((amount_d m ρ c (sj j) false).trans (dAmt_sj j)) ((amount_d m ρ (dst j c) (rj j) false).trans (dAmt_rj j)) (OR c n)
    (OR_succ c n j hn) (W := W)
    (by rw [payload_d]; exact h₁) (by rw [payload_d]; exact h₂)) $$ [Hs Hd HO Ht₁ Ht₂]
  · isplitr; · iapply (env_inv m ρ K (c, some (sj j))); iexact He
    isplitr; · iapply (env_inv m ρ K (dst j c, some (rj j))); iexact He
    isplitl [Hs]; · iexact Hs
    isplitl [Hd]; · iexact Hd
    isplitl [HO]; · iexact HO
    isplitl [Ht₁]; · iexact Ht₁
    isplitr; · iapply (env_reached m ρ K (c, some (sj j))); iexact He
    isplitl [Ht₂]; · iexact Ht₂
    iapply (env_reached m ρ K (dst j c, some (rj j))); iexact He
  iintro ⟨Hc, HO⟩
  iapply Hk
  isplitl [Hc]; · rw [dAmt_sj]; iexact Hc
  iexists _; iexact HO

/-! ## Loads and stores -/

section Mem
variable {α : Type}

/-- A load of a block of the output. -/
theorem ld_o {Q : α → sProp 𝕄} (c : Dev nD) (k : Fin 4) (h : Fin 2) (f : OC F) {off : Fin 2 → ℕ} {inb : ∀ a, off a + S256x256.size a ≤ S1024x512.size a} (ho : off = blkOff k h)
    {hl : (oM : Memref sig .tc .vmem S1024x512 .bf16).view.LoadsAt (Rect.unit (s := S1024x512) off S256x256.size inb).toLoadRect}
    {κ : (S256x256.Idx → Elt F .bf16) → Prog (TpuEff nD τ sig (Elt F) Λ₀ .tc) α} :
    oPt c (blk k h) f ⊢ iprop((oPt c (blk k h) f -∗ WP c (κ (rd (blk k h) f)) Q)
      -∗ WP c (.op (.load oM (Rect.unit (s := S1024x512) off S256x256.size inb).toLoadRect hl) κ) Q) := by
  subst ho
  exact wp_load_rect 𝒱₀ (c : Thread nD τ) none Set.univ (m := oM) (r := blk k h) (Finset.Subset.refl _)

/-- A store that leaves a block of the output holding `g`. -/
theorem st_o {Q : α → sProp 𝕄} (c : Dev nD) (k : Fin 4) (h : Fin 2) (f g : OC F) {off : Fin 2 → ℕ} {inb : ∀ a, off a + S256x256.size a ≤ S1024x512.size a} (ho : off = blkOff k h)
    {w : S256x256.Idx → Elt F .bf16} (hw : w = rd (blk k h) g)
    {hx : ((oM : Memref sig .tc .vmem S1024x512 .bf16).access (Rect.unit (s := S1024x512) off S256x256.size inb)).Stores Finset.univ} {hm}
    {κ : PUnit → Prog (TpuEff nD τ sig (Elt F) Λ₀ .tc) α} :
    oPt c (blk k h) f ⊢ iprop((oPt c (blk k h) g -∗ WP c (κ ⟨⟩) Q)
      -∗ WP c (.op (.store oM (Rect.unit (s := S1024x512) off S256x256.size inb) w Finset.univ hx hm) κ) Q) := by
  subst ho; subst hw
  rw [← oPt_write c (blk k h) f g]
  exact wp_store 𝒱₀ (c : Thread nD τ) none Set.univ (m := oM) (r := blk k h) (Mk := Finset.univ) (Finset.Subset.refl _)

/-- A load of a block of the staged input. -/
theorem ld_x {Q : α → sProp 𝕄} (c : Dev nD) (k : Fin 4) (h : Fin 2) (f : OC F) {off : Fin 2 → ℕ} {inb : ∀ a, off a + S256x256.size a ≤ S1024x512.size a} (ho : off = blkOff k h)
    {hl : (xM : Memref sig .tc .vmem S1024x512 .bf16).view.LoadsAt (Rect.unit (s := S1024x512) off S256x256.size inb).toLoadRect}
    {κ : (S256x256.Idx → Elt F .bf16) → Prog (TpuEff nD τ sig (Elt F) Λ₀ .tc) α} :
    wPt c cc0_stg0_0 f ⊢ iprop((wPt c cc0_stg0_0 f -∗ WP c (κ (rd (blk k h) f)) Q)
      -∗ WP c (.op (.load xM (Rect.unit (s := S1024x512) off S256x256.size inb).toLoadRect hl) κ) Q) := by
  subst ho
  exact wp_load_rect 𝒱₀ (c : Thread nD τ) none Set.univ (m := xM) (r := blk k h) (Finset.subset_univ _)

theorem ld_sa {Q : α → sProp 𝕄} (c : Dev nD) (t : Fin 2) (f : S2x256x256.Idx → Elt F .bf16) {off : Fin 3 → ℕ} {inb : ∀ a, off a + S1x256x256.size a ≤ S2x256x256.size a}
    (ho : off = ![t.val, 0, 0])
    {hl : (saM : Memref sig .tc .vmem S2x256x256 .bf16).view.LoadsAt (Rect.unit (s := S2x256x256) off S1x256x256.size inb).toLoadRect}
    {κ : (S1x256x256.Idx → Elt F .bf16) → Prog (TpuEff nD τ sig (Elt F) Λ₀ .tc) α} :
    wPt c cc0_scratch0 f ⊢ iprop((wPt c cc0_scratch0 f -∗ WP c (κ (rd2 (slab t) f)) Q)
      -∗ WP c (.op (.load saM (Rect.unit (s := S2x256x256) off S1x256x256.size inb).toLoadRect hl) κ) Q) := by
  subst ho
  exact wp_load_rect 𝒱₀ (c : Thread nD τ) none Set.univ (m := saM) (r := slab t) (Finset.subset_univ _)

theorem ld_sb {Q : α → sProp 𝕄} (c : Dev nD) (t : Fin 2) (f : S2x256x256.Idx → Elt F .bf16) {off : Fin 3 → ℕ} {inb : ∀ a, off a + S1x256x256.size a ≤ S2x256x256.size a}
    (ho : off = ![t.val, 0, 0])
    {hl : (sbM : Memref sig .tc .vmem S2x256x256 .bf16).view.LoadsAt (Rect.unit (s := S2x256x256) off S1x256x256.size inb).toLoadRect}
    {κ : (S1x256x256.Idx → Elt F .bf16) → Prog (TpuEff nD τ sig (Elt F) Λ₀ .tc) α} :
    wPt c cc0_scratch1 f ⊢ iprop((wPt c cc0_scratch1 f -∗ WP c (κ (rd2 (slab t) f)) Q)
      -∗ WP c (.op (.load sbM (Rect.unit (s := S2x256x256) off S1x256x256.size inb).toLoadRect hl) κ) Q) := by
  subst ho
  exact wp_load_rect 𝒱₀ (c : Thread nD τ) none Set.univ (m := sbM) (r := slab t) (Finset.subset_univ _)

theorem ld_ra {Q : α → sProp 𝕄} (c : Dev nD) (t : Fin 2) (f : S2x256x256.Idx → Elt F .bf16) {off : Fin 3 → ℕ} {inb : ∀ a, off a + S1x256x256.size a ≤ S2x256x256.size a}
    (ho : off = ![t.val, 0, 0])
    {hl : (raM : Memref sig .tc .vmem S2x256x256 .bf16).view.LoadsAt (Rect.unit (s := S2x256x256) off S1x256x256.size inb).toLoadRect}
    {κ : (S1x256x256.Idx → Elt F .bf16) → Prog (TpuEff nD τ sig (Elt F) Λ₀ .tc) α} :
    wPt c cc0_scratch2 f ⊢ iprop((wPt c cc0_scratch2 f -∗ WP c (κ (rd2 (slab t) f)) Q)
      -∗ WP c (.op (.load raM (Rect.unit (s := S2x256x256) off S1x256x256.size inb).toLoadRect hl) κ) Q) := by
  subst ho
  exact wp_load_rect 𝒱₀ (c : Thread nD τ) none Set.univ (m := raM) (r := slab t) (Finset.subset_univ _)

theorem ld_rb {Q : α → sProp 𝕄} (c : Dev nD) (t : Fin 2) (f : S2x256x256.Idx → Elt F .bf16) {off : Fin 3 → ℕ} {inb : ∀ a, off a + S1x256x256.size a ≤ S2x256x256.size a}
    (ho : off = ![t.val, 0, 0])
    {hl : (rbM : Memref sig .tc .vmem S2x256x256 .bf16).view.LoadsAt (Rect.unit (s := S2x256x256) off S1x256x256.size inb).toLoadRect}
    {κ : (S1x256x256.Idx → Elt F .bf16) → Prog (TpuEff nD τ sig (Elt F) Λ₀ .tc) α} :
    wPt c cc0_scratch3 f ⊢ iprop((wPt c cc0_scratch3 f -∗ WP c (κ (rd2 (slab t) f)) Q)
      -∗ WP c (.op (.load rbM (Rect.unit (s := S2x256x256) off S1x256x256.size inb).toLoadRect hl) κ) Q) := by
  subst ho
  exact wp_load_rect 𝒱₀ (c : Thread nD τ) none Set.univ (m := rbM) (r := slab t) (Finset.subset_univ _)

omit [FloatOps F] in
theorem mem_slab (t : Fin 2) (p : S2x256x256.Idx) : p ∈ (slab t).set ↔ (p 0).val = t.val := by
  rw [Rect.mem_set_unit]
  constructor
  · intro H
    have a : t.val ≤ (p 0).val ∧ (p 0).val < t.val + 1 := H 0
    omega
  · intro h a
    match a with
    | ⟨0, _⟩ => show t.val ≤ (p 0).val ∧ (p 0).val < t.val + 1; omega
    | ⟨1, _⟩ => exact ⟨Nat.zero_le _, (Nat.zero_add _).symm ▸ (p 1).isLt⟩
    | ⟨2, _⟩ => exact ⟨Nat.zero_le _, (Nat.zero_add _).symm ▸ (p 2).isLt⟩

theorem st_sa {Q : α → sProp 𝕄} (c : Dev nD) (t : Fin 2) (f : S2x256x256.Idx → Elt F .bf16) {off : Fin 3 → ℕ} {inb : ∀ a, off a + S1x256x256.size a ≤ S2x256x256.size a}
    (ho : off = ![t.val, 0, 0]) {w : S1x256x256.Idx → Elt F .bf16}
    {hx : ((saM : Memref sig .tc .vmem S2x256x256 .bf16).access (Rect.unit (s := S2x256x256) off S1x256x256.size inb)).Stores Finset.univ} {hm}
    {κ : PUnit → Prog (TpuEff nD τ sig (Elt F) Λ₀ .tc) α} :
    wPt c cc0_scratch0 f ⊢ iprop((wPt c cc0_scratch0 ((saM.access (slab t)).write (Elt F) f w Finset.univ) -∗ WP c (κ ⟨⟩) Q)
      -∗ WP c (.op (.store saM (Rect.unit (s := S2x256x256) off S1x256x256.size inb) w Finset.univ hx hm) κ) Q) := by
  subst ho
  exact wp_store 𝒱₀ (c : Thread nD τ) none Set.univ (m := saM) (r := slab t) (Mk := Finset.univ) (Finset.subset_univ _)

omit [FloatOps F] in
/-- The two blocks written one after the other make up the whole buffer. -/
theorem two_sa (f g : S2x256x256.Idx → Elt F .bf16) :
    (saM.access (slab 1)).write (Elt F) ((saM.access (slab 0)).write (Elt F) f (rd2 (slab 0) g) Finset.univ) (rd2 (slab 1) g) Finset.univ = g := by
  have e : ∀ (t : Fin 2) (f' : S2x256x256.Idx → Elt F .bf16), (saM.access (slab t)).write (Elt F) f' (rd2 (slab t) g) Finset.univ
      = (slab t).set.piecewise g f' := fun t f' => by
    rw [show rd2 (slab t) g = (saM.access (slab t)).read (Elt F) g from rfl, View.write_read_eq_piecewise, View.setOn_univ,
      show (saM.access (slab t)).set = (slab t).set from View.set_slice_whole cc0_scratch0 _]
  rw [e, e]
  funext p
  have h2 : (p 0).val < 2 := (p 0).isLt
  by_cases h1 : p ∈ (slab 1).set
  · exact Finset.piecewise_eq_of_mem _ _ _ h1
  · refine (Finset.piecewise_eq_of_notMem _ _ _ h1).trans (Finset.piecewise_eq_of_mem _ _ _ ((mem_slab 0 p).mpr ?_))
    have h1' : ¬ (p 0).val = 1 := fun h => h1 ((mem_slab 1 p).mpr h)
    show (p 0).val = 0
    omega

theorem st_sb {Q : α → sProp 𝕄} (c : Dev nD) (t : Fin 2) (f : S2x256x256.Idx → Elt F .bf16) {off : Fin 3 → ℕ} {inb : ∀ a, off a + S1x256x256.size a ≤ S2x256x256.size a}
    (ho : off = ![t.val, 0, 0]) {w : S1x256x256.Idx → Elt F .bf16}
    {hx : ((sbM : Memref sig .tc .vmem S2x256x256 .bf16).access (Rect.unit (s := S2x256x256) off S1x256x256.size inb)).Stores Finset.univ} {hm}
    {κ : PUnit → Prog (TpuEff nD τ sig (Elt F) Λ₀ .tc) α} :
    wPt c cc0_scratch1 f ⊢ iprop((wPt c cc0_scratch1 ((sbM.access (slab t)).write (Elt F) f w Finset.univ) -∗ WP c (κ ⟨⟩) Q)
      -∗ WP c (.op (.store sbM (Rect.unit (s := S2x256x256) off S1x256x256.size inb) w Finset.univ hx hm) κ) Q) := by
  subst ho
  exact wp_store 𝒱₀ (c : Thread nD τ) none Set.univ (m := sbM) (r := slab t) (Mk := Finset.univ) (Finset.subset_univ _)

omit [FloatOps F] in
/-- The two blocks written one after the other make up the whole buffer. -/
theorem two_sb (f g : S2x256x256.Idx → Elt F .bf16) :
    (sbM.access (slab 1)).write (Elt F) ((sbM.access (slab 0)).write (Elt F) f (rd2 (slab 0) g) Finset.univ) (rd2 (slab 1) g) Finset.univ = g := by
  have e : ∀ (t : Fin 2) (f' : S2x256x256.Idx → Elt F .bf16), (sbM.access (slab t)).write (Elt F) f' (rd2 (slab t) g) Finset.univ
      = (slab t).set.piecewise g f' := fun t f' => by
    rw [show rd2 (slab t) g = (sbM.access (slab t)).read (Elt F) g from rfl, View.write_read_eq_piecewise, View.setOn_univ,
      show (sbM.access (slab t)).set = (slab t).set from View.set_slice_whole cc0_scratch1 _]
  rw [e, e]
  funext p
  have h2 : (p 0).val < 2 := (p 0).isLt
  by_cases h1 : p ∈ (slab 1).set
  · exact Finset.piecewise_eq_of_mem _ _ _ h1
  · refine (Finset.piecewise_eq_of_notMem _ _ _ h1).trans (Finset.piecewise_eq_of_mem _ _ _ ((mem_slab 0 p).mpr ?_))
    have h1' : ¬ (p 0).val = 1 := fun h => h1 ((mem_slab 1 p).mpr h)
    show (p 0).val = 0
    omega

omit [FloatOps F] in
theorem hz2 : (![0, 0] : Fin 2 → Nat) = fun _ => 0 := funext fun a => by fin_cases a <;> rfl

theorem ld_ta {Q : α → sProp 𝕄} (c : Dev nD) (f : S256x256.Idx → Elt F .bf16) {off : Fin 2 → ℕ} {inb : ∀ a, off a + S256x256.size a ≤ S256x256.size a}
    (ho : off = ![0, 0])
    {hl : (taM : Memref sig .tc .vmem S256x256 .bf16).view.LoadsAt (Rect.unit (s := S256x256) off S256x256.size inb).toLoadRect}
    {κ : (S256x256.Idx → Elt F .bf16) → Prog (TpuEff nD τ sig (Elt F) Λ₀ .tc) α} :
    wPt c cc0_scratch4 f ⊢ iprop((wPt c cc0_scratch4 f -∗ WP c (κ f) Q)
      -∗ WP c (.op (.load taM (Rect.unit (s := S256x256) off S256x256.size inb).toLoadRect hl) κ) Q) := by
  subst ho
  have e : κ ((taM : Memref sig .tc .vmem S256x256 .bf16).view.readAt (Elt F) (Rect.unit (s := S256x256) ![0, 0] S256x256.size inb).toLoadRect f) = κ f :=
    congrArg κ (Memref.readAt_unit_zero (Elt F) cc0_scratch4 hz2 _ f)
  rw [← e]
  exact wp_load 𝒱₀ (c : Thread nD τ) none Set.univ (m := taM) (Finset.subset_univ _)

theorem ld_tb {Q : α → sProp 𝕄} (c : Dev nD) (f : S256x256.Idx → Elt F .bf16) {off : Fin 2 → ℕ} {inb : ∀ a, off a + S256x256.size a ≤ S256x256.size a}
    (ho : off = ![0, 0])
    {hl : (tbM : Memref sig .tc .vmem S256x256 .bf16).view.LoadsAt (Rect.unit (s := S256x256) off S256x256.size inb).toLoadRect}
    {κ : (S256x256.Idx → Elt F .bf16) → Prog (TpuEff nD τ sig (Elt F) Λ₀ .tc) α} :
    wPt c cc0_scratch5 f ⊢ iprop((wPt c cc0_scratch5 f -∗ WP c (κ f) Q)
      -∗ WP c (.op (.load tbM (Rect.unit (s := S256x256) off S256x256.size inb).toLoadRect hl) κ) Q) := by
  subst ho
  have e : κ ((tbM : Memref sig .tc .vmem S256x256 .bf16).view.readAt (Elt F) (Rect.unit (s := S256x256) ![0, 0] S256x256.size inb).toLoadRect f) = κ f :=
    congrArg κ (Memref.readAt_unit_zero (Elt F) cc0_scratch5 hz2 _ f)
  rw [← e]
  exact wp_load 𝒱₀ (c : Thread nD τ) none Set.univ (m := tbM) (Finset.subset_univ _)

end Mem

end Cert.KernelIdealProof

end
-- ==== Proof.KernelIdeal.Body1.lean ====
/-
The stored values, what completions hand over, and the copies.
-/
module

public import proofs.«01_k».proof.Proof.KernelIdeal.Rules

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 18) → ℕ)

/-- A program that has ended. -/
theorem ret_intro (c : Dev nD) {α : Type} (a : α) (Q : α → sProp 𝕄) : Q a ⊢ WP c (.ret a) Q := by
  unfold WP; rw [wp_ret]; iintro H; imodintro; iexact H

/-! ## The stored values -/

omit [FloatOps F] in
theorem idx_cast (f : OC F) (k : Fin 4) (h : Fin 2) (hc : S256x256.ShapeCasts S256x256) : shapeCast S256x256 (rd (blk k h) f) hc = rd (blk k h) f :=
  shapeCast_self _ hc
/-- A block added to the block that stands at its place among two stacked ones. -/
theorem add_slab (f g : OC F) (k0 k1 : Fin 4) (h : Fin 2) (t : Fin 2) (k : Fin 4) (hk : (if t.val = 0 then k0 else k1) = k) :
    k0_pay9 (rd (blk k h) f) (rd2 (slab t) (pack g k0 k1 h)) = rd (blk k h) (addf (φ := .bf16) (s := S1024x512) f g) :=
  (congrArg₂ (addf (φ := .bf16) (s := S256x256)) (idx_cast f k h _) (slab_cast g k0 k1 h t k hk _)).trans rfl
/-- A block added to a block. -/
theorem add_blk (f g : OC F) (k : Fin 4) (h : Fin 2) :
    k0_pay13 (rd (blk k h) f) (rd (blk k h) g) = rd (blk k h) (addf (φ := .bf16) (s := S1024x512) f g) :=
  (congrArg (fun z => addf (φ := .bf16) (s := S256x256) z (rd (blk k h) g)) (idx_cast f k h _)).trans rfl

/-! ## What completions hand over, and what a copy takes -/

/-- The device's position at round 0 of its DMA cell `j`, and at round 1. -/
abbrev p0 (c : Dev nD) (j : Fin 18) : sProp 𝕄 := atPos ER (dCell c j) 0 ∅ 0
abbrev p1 (c : Dev nD) (j : Fin 18) : sProp 𝕄 := atPos ER (dCell c j) 1 ∅ 0
/-- The credit token of DMA cell `j`. -/
abbrev cr (c : Dev nD) (j : Fin 18) : sProp 𝕄 := cred (tallyAt (dCell c j) () (dAmt j))
/-- The two duty tokens that copy `j` takes. -/
abbrev tk (c : Dev nD) (j : Fin 9) : sProp 𝕄 := iprop(dutyTok ER (dCell c (sj j)) 0 false ∗ dutyTok ER (rcv j c) 0 false)

section
variable (c : Dev nD)
theorem dp_s0 : dPay m ρ c (sj 0) = iprop(∃ f, wPt c cc0_scratch0 f) := rfl
theorem dp_s1 : dPay m ρ c (sj 1) = iprop(∃ f, wPt c cc0_scratch1 f) := rfl
theorem dp_s2 : dPay m ρ c (sj 2) = iprop(emp) := rfl
theorem dp_s3 : dPay m ρ c (sj 3) = iprop(emp) := rfl
theorem dp_s4 : dPay m ρ c (sj 4) = oPt c (blk (kown c) 0) (FIN m ρ) := rfl
theorem dp_s5 : dPay m ρ c (sj 5) = oPt c (blk (kown c) 1) (FIN m ρ) := rfl
theorem dp_s6 : dPay m ρ c (sj 6) = oPt c (half (gh c)) (FIN m ρ) := rfl
theorem dp_s7 : dPay m ρ c (sj 7) = oPt c (blk (k7 c) 1) (FIN m ρ) := rfl
theorem dp_s8 : dPay m ρ c (sj 8) = oPt c (blk (k8 c) 1) (FIN m ρ) := rfl
theorem dp_r0 : dPay m ρ c (rj 0) = wPt c cc0_scratch2 (RA m ρ c) := rfl
theorem dp_r1 : dPay m ρ c (rj 1) = wPt c cc0_scratch3 (RB m ρ c) := rfl
theorem dp_r2 : dPay m ρ c (rj 2) = iprop(wPt c cc0_scratch4 (TA m ρ c) ∗ oPt (pb c) (blk (kown c) 0) (A1 m ρ (pb c))) := rfl
theorem dp_r3 : dPay m ρ c (rj 3) = iprop(wPt c cc0_scratch5 (TB m ρ c) ∗ oPt (pg c) (blk (kown c) 1) (B1 m ρ (pg c))) := rfl
theorem dp_r4 : dPay m ρ c (rj 4) = oPt c (blk (kown (pb c)) 0) (FIN m ρ) := rfl
theorem dp_r5 : dPay m ρ c (rj 5) = oPt c (blk (kown (pg c)) 1) (FIN m ρ) := rfl
theorem dp_r6 : dPay m ρ c (rj 6) = oPt c (half (gh (pg c))) (FIN m ρ) := rfl
theorem dp_r7 : dPay m ρ c (rj 7) = oPt c (blk (k7 (pb c)) 1) (FIN m ρ) := rfl
theorem dp_r8 : dPay m ρ c (rj 8) = oPt c (blk (k8 (pb c)) 1) (FIN m ρ) := rfl
end

/-! ## The copies' credits -/

theorem amt_0 : amt 0 = N2 := by unfold amt; rfl
theorem amt_1 : amt 1 = N2 := by unfold amt; rfl
theorem amt_2 : amt 2 = N1 := by unfold amt; rfl
theorem amt_3 : amt 3 = N1 := by unfold amt; rfl
theorem amt_4 : amt 4 = N1 := by unfold amt; rfl
theorem amt_5 : amt 5 = N1 := by unfold amt; rfl
theorem amt_6 : amt 6 = NH := by unfold amt; rfl
theorem amt_7 : amt 7 = N1 := by unfold amt; rfl
theorem amt_8 : amt 8 = N1 := by unfold amt; rfl
theorem cred_tb : (tbM : Memref sig .tc .vmem S256x256 .bf16).view.dmaCredit = N1 := rfl
theorem cred_sa : (saM : Memref sig .tc .vmem S2x256x256 .bf16).view.dmaCredit = N2 := rfl
theorem cred_sb : (sbM : Memref sig .tc .vmem S2x256x256 .bf16).view.dmaCredit = N2 := rfl
theorem cred_rb : (rbM : Memref sig .tc .vmem S2x256x256 .bf16).view.dmaCredit = N2 := rfl
theorem cred_b {off : Fin 2 → ℕ} {inb : ∀ a, off a + S256x256.size a ≤ S1024x512.size a}
    {hu : ∀ a, (Rect.unit (s := S1024x512) off S256x256.size inb).stride a = 1} :
    ((oM : Memref sig .tc .vmem S1024x512 .bf16).slice (Rect.unit (s := S1024x512) off S256x256.size inb) hu).view.dmaCredit = N1 := rfl
theorem cred_h {off : Fin 2 → ℕ} {inb : ∀ a, off a + S512x256.size a ≤ S1024x512.size a}
    {hu : ∀ a, (Rect.unit (s := S1024x512) off S512x256.size inb).stride a = 1} :
    ((oM : Memref sig .tc .vmem S1024x512 .bf16).slice (Rect.unit (s := S1024x512) off S512x256.size inb) hu).view.dmaCredit = NH := rfl
theorem cred_bk (k : Fin 4) (h : Fin 2) : ((oM : Memref sig .tc .vmem S1024x512 .bf16).access (blk k h)).dmaCredit = N1 := rfl
theorem cred_hk (g : Fin 2) : ((oM : Memref sig .tc .vmem S1024x512 .bf16).access (half g)).dmaCredit = NH := rfl
theorem am_ra : (raM : Memref sig .tc .vmem S2x256x256 .bf16).view.dmaCredit = amt 0 := amt_0.symm
theorem am_rb : (rbM : Memref sig .tc .vmem S2x256x256 .bf16).view.dmaCredit = amt 1 := cred_rb.trans amt_1.symm
theorem am_ta : (taM : Memref sig .tc .vmem S256x256 .bf16).view.dmaCredit = amt 2 := amt_2.symm
theorem am_tb : (tbM : Memref sig .tc .vmem S256x256 .bf16).view.dmaCredit = amt 3 := cred_tb.trans amt_3.symm

/-! ## The copies -/

/-- The first exchange in column half 0: the stacked blocks go to the landing buffer of `pg c`. -/
theorem snd_0 (c d : Dev nD) (hd : d = dst 0 c) {sS sR : DmaSem sig} (hS : sS = ds (sj 0)) (hR : sR = ds (rj 0))
    {hsc : (raM : Memref sig (Dev.tc d : Thread nD τ).2.kind .vmem S2x256x256 .bf16).view.ref.isScScratch = false}
    {hsrc : (saM : Memref sig .tc .vmem S2x256x256 .bf16).view.WordExact} {hdst : (raM : Memref sig .tc .vmem S2x256x256 .bf16).view.WordExact}
    {hsem : DmaTarget.Typed .vmem (.dma sR) (.remote (Dev.tc d : Thread nD τ) (raM : Memref sig .tc .vmem S2x256x256 .bf16) (.dma sS) hsc)}
    {α : Type} {Q : α → sProp 𝕄} {k : PUnit → Prog (TpuEff nD τ sig (Elt F) Λ₀ .tc) α} :
    iprop(env m ρ K ∗ wPt c cc0_scratch0 (SA m ρ c) ∗ (∃ f, wPt (pg c) cc0_scratch2 f) ∗ Ow c 9 ∗ tk c 0)
      ⊢ iprop(((cr c (sj 0) ∗ Ow c 8) -∗ WP c (k ⟨⟩) Q)
          -∗ WP c (.op (.enqueueDma saM (.remote (Dev.tc d : Thread nD τ) raM (.dma sS) hsc) (.dma sR) hsrc hdst hsem) k) Q) := by
  iintro ⟨#He, Hs, ⟨%fd, Hd⟩, HO, Ht₁, Ht₂⟩
  iapply (snd m ρ K c d 0 8 rfl hd hS hR (src := saM) (dstm := raM) am_ra (SA m ρ c) fd
    (by rw [dp_s0]; iintro H; iexists (SA m ρ c); unfold wPt; rw [View.set_whole]; iexact H)
    (by
      have e : dPay m ρ (dst 0 c) (rj 0) = wPt (pg c) cc0_scratch2 (SA m ρ c) := (dp_r0 m ρ (pg c)).trans (by rw [SA_eq])
      rw [e]
      have e2 : (raM : Memref sig .tc .vmem S2x256x256 .bf16).view.write (Elt F) fd ((saM : Memref sig .tc .vmem S2x256x256 .bf16).view.read (Elt F) (SA m ρ c)) Finset.univ = SA m ρ c := by
        rw [View.write_whole_univ, View.read_whole]
      rw [e2]
      iintro H; unfold wPt; rw [View.set_whole]; iexact H)) $$ [Hs Hd HO Ht₁ Ht₂]
  isplitr; · iexact He
  isplitl [Hs]; · unfold wPt; rw [View.set_whole]; iexact Hs
  isplitl [Hd]; · unfold wPt; rw [View.set_whole]; iexact Hd
  isplitl [HO]; · iexact HO
  isplitl [Ht₁]; · iexact Ht₁
  iexact Ht₂
/-- The first exchange in column half 1: the stacked blocks go to the landing buffer of `pb c`. -/
theorem snd_1 (c d : Dev nD) (hd : d = dst 1 c) {sS sR : DmaSem sig} (hS : sS = ds (sj 1)) (hR : sR = ds (rj 1))
    {hsc : (rbM : Memref sig (Dev.tc d : Thread nD τ).2.kind .vmem S2x256x256 .bf16).view.ref.isScScratch = false}
    {hsrc : (sbM : Memref sig .tc .vmem S2x256x256 .bf16).view.WordExact} {hdst : (rbM : Memref sig .tc .vmem S2x256x256 .bf16).view.WordExact}
    {hsem : DmaTarget.Typed .vmem (.dma sR) (.remote (Dev.tc d : Thread nD τ) (rbM : Memref sig .tc .vmem S2x256x256 .bf16) (.dma sS) hsc)}
    {α : Type} {Q : α → sProp 𝕄} {k : PUnit → Prog (TpuEff nD τ sig (Elt F) Λ₀ .tc) α} :
    iprop(env m ρ K ∗ wPt c cc0_scratch1 (SB m ρ c) ∗ (∃ f, wPt (pb c) cc0_scratch3 f) ∗ Ow c 8 ∗ tk c 1)
      ⊢ iprop(((cr c (sj 1) ∗ Ow c 7) -∗ WP c (k ⟨⟩) Q)
          -∗ WP c (.op (.enqueueDma sbM (.remote (Dev.tc d : Thread nD τ) rbM (.dma sS) hsc) (.dma sR) hsrc hdst hsem) k) Q) := by
  iintro ⟨#He, Hs, ⟨%fd, Hd⟩, HO, Ht₁, Ht₂⟩
  iapply (snd m ρ K c d 1 7 rfl hd hS hR (src := sbM) (dstm := rbM) am_rb (SB m ρ c) fd
    (by rw [dp_s1]; iintro H; iexists (SB m ρ c); unfold wPt; rw [View.set_whole]; iexact H)
    (by
      have e : dPay m ρ (dst 1 c) (rj 1) = wPt (pb c) cc0_scratch3 (SB m ρ c) := (dp_r1 m ρ (pb c)).trans (by rw [SB_eq])
      rw [e]
      have e2 : (rbM : Memref sig .tc .vmem S2x256x256 .bf16).view.write (Elt F) fd ((sbM : Memref sig .tc .vmem S2x256x256 .bf16).view.read (Elt F) (SB m ρ c)) Finset.univ = SB m ρ c := by
        rw [View.write_whole_univ, View.read_whole]
      rw [e2]
      iintro H; unfold wPt; rw [View.set_whole]; iexact H)) $$ [Hs Hd HO Ht₁ Ht₂]
  isplitr; · iexact He
  isplitl [Hs]; · unfold wPt; rw [View.set_whole]; iexact Hs
  isplitl [Hd]; · unfold wPt; rw [View.set_whole]; iexact Hd
  isplitl [HO]; · iexact HO
  isplitl [Ht₁]; · iexact Ht₁
  iexact Ht₂

/-- The second exchange in column half 0: the block that `pb c` completes goes to its landing buffer, and with the landing the place it comes from. -/
theorem snd_2 (c d : Dev nD) (hd : d = dst 2 c) {sS sR : DmaSem sig} (hS : sS = ds (sj 2)) (hR : sR = ds (rj 2))
    {off : Fin 2 → ℕ} {inb : ∀ a, off a + S256x256.size a ≤ S1024x512.size a} (ho : off = blkOff (kown (pb c)) 0)
    {hu : ∀ a, (Rect.unit (s := S1024x512) off S256x256.size inb).stride a = 1}
    {hsc : (taM : Memref sig (Dev.tc d : Thread nD τ).2.kind .vmem S256x256 .bf16).view.ref.isScScratch = false}
    {hsrc : ((oM : Memref sig .tc .vmem S1024x512 .bf16).slice (Rect.unit (s := S1024x512) off S256x256.size inb) hu).view.WordExact} {hdst : (taM : Memref sig .tc .vmem S256x256 .bf16).view.WordExact}
    {hsem : DmaTarget.Typed .vmem (.dma sR) (.remote (Dev.tc d : Thread nD τ) (taM : Memref sig .tc .vmem S256x256 .bf16) (.dma sS) hsc)}
    {α : Type} {Q : α → sProp 𝕄} {k : PUnit → Prog (TpuEff nD τ sig (Elt F) Λ₀ .tc) α} :
    iprop(env m ρ K ∗ oPt c (blk (kown (pb c)) 0) (A1 m ρ c) ∗ (∃ f, wPt (pb c) cc0_scratch4 f) ∗ Ow c 7 ∗ tk c 2)
      ⊢ iprop(((cr c (sj 2) ∗ Ow c 6) -∗ WP c (k ⟨⟩) Q)
          -∗ WP c (.op (.enqueueDma (oM.slice (Rect.unit (s := S1024x512) off S256x256.size inb) hu) (.remote (Dev.tc d : Thread nD τ) taM (.dma sS) hsc) (.dma sR) hsrc hdst hsem) k) Q) := by
  subst ho
  iintro ⟨#He, Hs, ⟨%fd, Hd⟩, HO, Ht₁, Ht₂⟩
  iapply (snd_landing m ρ K c d 2 6 rfl hd hS hR (src := (oM : Memref sig .tc .vmem S1024x512 .bf16).slice (blk (kown (pb c)) 0) hu) (dstm := taM) am_ta (A1 m ρ c) fd
    (by rw [dp_s2])
    (by
      have e : dPay m ρ (dst 2 c) (rj 2) = iprop(wPt (pb c) cc0_scratch4 (rd (blk (kown (pb c)) 0) (A1 m ρ c)) ∗ oPt c (blk (kown (pb c)) 0) (A1 m ρ c)) :=
        (dp_r2 m ρ (pb c)).trans (by unfold TA; rw [pb_pb])
      rw [e]
      have e2 : (taM : Memref sig .tc .vmem S256x256 .bf16).view.write (Elt F) fd (((oM : Memref sig .tc .vmem S1024x512 .bf16).slice (blk (kown (pb c)) 0) hu).view.read (Elt F) (A1 m ρ c)) Finset.univ
          = rd (blk (kown (pb c)) 0) (A1 m ρ c) := by
        rw [View.write_whole_univ]; rfl
      rw [e2]
      iintro ⟨H, H'⟩
      isplitl [H]; · unfold wPt; rw [View.set_whole]; iexact H
      unfold oPt; iexact H')) $$ [Hs Hd HO Ht₁ Ht₂]
  isplitr; · iexact He
  isplitl [Hs]; · unfold oPt; iexact Hs
  isplitl [Hd]; · unfold wPt; rw [View.set_whole]; iexact Hd
  isplitl [HO]; · iexact HO
  isplitl [Ht₁]; · iexact Ht₁
  iexact Ht₂

/-- The second exchange in column half 1: the block that `pg c` completes goes to its landing buffer, and with the landing the place it comes from. -/
theorem snd_3 (c d : Dev nD) (hd : d = dst 3 c) {sS sR : DmaSem sig} (hS : sS = ds (sj 3)) (hR : sR = ds (rj 3))
    {off : Fin 2 → ℕ} {inb : ∀ a, off a + S256x256.size a ≤ S1024x512.size a} (ho : off = blkOff (kown (pg c)) 1)
    {hu : ∀ a, (Rect.unit (s := S1024x512) off S256x256.size inb).stride a = 1}
    {hsc : (tbM : Memref sig (Dev.tc d : Thread nD τ).2.kind .vmem S256x256 .bf16).view.ref.isScScratch = false}
    {hsrc : ((oM : Memref sig .tc .vmem S1024x512 .bf16).slice (Rect.unit (s := S1024x512) off S256x256.size inb) hu).view.WordExact} {hdst : (tbM : Memref sig .tc .vmem S256x256 .bf16).view.WordExact}
    {hsem : DmaTarget.Typed .vmem (.dma sR) (.remote (Dev.tc d : Thread nD τ) (tbM : Memref sig .tc .vmem S256x256 .bf16) (.dma sS) hsc)}
    {α : Type} {Q : α → sProp 𝕄} {k : PUnit → Prog (TpuEff nD τ sig (Elt F) Λ₀ .tc) α} :
    iprop(env m ρ K ∗ oPt c (blk (kown (pg c)) 1) (B1 m ρ c) ∗ (∃ f, wPt (pg c) cc0_scratch5 f) ∗ Ow c 6 ∗ tk c 3)
      ⊢ iprop(((cr c (sj 3) ∗ Ow c 5) -∗ WP c (k ⟨⟩) Q)
          -∗ WP c (.op (.enqueueDma (oM.slice (Rect.unit (s := S1024x512) off S256x256.size inb) hu) (.remote (Dev.tc d : Thread nD τ) tbM (.dma sS) hsc) (.dma sR) hsrc hdst hsem) k) Q) := by
  subst ho
  iintro ⟨#He, Hs, ⟨%fd, Hd⟩, HO, Ht₁, Ht₂⟩
  iapply (snd_landing m ρ K c d 3 5 rfl hd hS hR (src := (oM : Memref sig .tc .vmem S1024x512 .bf16).slice (blk (kown (pg c)) 1) hu) (dstm := tbM) am_tb (B1 m ρ c) fd
    (by rw [dp_s3])
    (by
      have e : dPay m ρ (dst 3 c) (rj 3) = iprop(wPt (pg c) cc0_scratch5 (rd (blk (kown (pg c)) 1) (B1 m ρ c)) ∗ oPt c (blk (kown (pg c)) 1) (B1 m ρ c)) :=
        (dp_r3 m ρ (pg c)).trans (by unfold TB; rw [pg_pg])
      rw [e]
      have e2 : (tbM : Memref sig .tc .vmem S256x256 .bf16).view.write (Elt F) fd (((oM : Memref sig .tc .vmem S1024x512 .bf16).slice (blk (kown (pg c)) 1) hu).view.read (Elt F) (B1 m ρ c)) Finset.univ
          = rd (blk (kown (pg c)) 1) (B1 m ρ c) := by
        rw [View.write_whole_univ]; rfl
      rw [e2]
      iintro ⟨H, H'⟩
      isplitl [H]; · unfold wPt; rw [View.set_whole]; iexact H
      unfold oPt; iexact H')) $$ [Hs Hd HO Ht₁ Ht₂]
  isplitr; · iexact He
  isplitl [Hs]; · unfold oPt; iexact Hs
  isplitl [Hd]; · unfold wPt; rw [View.set_whole]; iexact Hd
  isplitl [HO]; · iexact HO
  isplitl [Ht₁]; · iexact Ht₁
  iexact Ht₂

/-- A copy of a block of the output onto the same block of another device. -/
theorem snd_b (c d : Dev nD) (j : Fin 9) (n : ℕ) (hn : j.val = 8 - n) (hd : d = dst j c) {sS sR : DmaSem sig} (hS : sS = ds (sj j)) (hR : sR = ds (rj j))
    (k₀ : Fin 4) (h₀ : Fin 2) (f : OC F) {off : Fin 2 → ℕ} {inb : ∀ a, off a + S256x256.size a ≤ S1024x512.size a} (ho : off = blkOff k₀ h₀)
    {hu : ∀ a, (Rect.unit (s := S1024x512) off S256x256.size inb).stride a = 1}
    {hsc : ((oM : Memref sig (Dev.tc d : Thread nD τ).2.kind .vmem S1024x512 .bf16).slice (Rect.unit (s := S1024x512) off S256x256.size inb) hu).view.ref.isScScratch = false}
    {hsrc : ((oM : Memref sig .tc .vmem S1024x512 .bf16).slice (Rect.unit (s := S1024x512) off S256x256.size inb) hu).view.WordExact}
    {hdst : ((oM : Memref sig .tc .vmem S1024x512 .bf16).slice (Rect.unit (s := S1024x512) off S256x256.size inb) hu).view.WordExact}
    {hsem : DmaTarget.Typed .vmem (.dma sR) (.remote (Dev.tc d : Thread nD τ) ((oM : Memref sig .tc .vmem S1024x512 .bf16).slice (Rect.unit (s := S1024x512) off S256x256.size inb) hu) (.dma sS) hsc)}
    (hN : ((oM : Memref sig .tc .vmem S1024x512 .bf16).access (blk k₀ h₀)).dmaCredit = amt j)
    (h₁ : dPay m ρ c (sj j) = oPt c (blk k₀ h₀) f) (h₂ : dPay m ρ (dst j c) (rj j) = oPt (dst j c) (blk k₀ h₀) f)
    {α : Type} {Q : α → sProp 𝕄} {k : PUnit → Prog (TpuEff nD τ sig (Elt F) Λ₀ .tc) α} :
    iprop(env m ρ K ∗ oPt c (blk k₀ h₀) f ∗ (∃ f', oPt (dst j c) (blk k₀ h₀) f') ∗ Ow c (n + 1) ∗ tk c j)
      ⊢ iprop(((cr c (sj j) ∗ Ow c n) -∗ WP c (k ⟨⟩) Q)
          -∗ WP c (.op (.enqueueDma (oM.slice (Rect.unit (s := S1024x512) off S256x256.size inb) hu)
            (.remote (Dev.tc d : Thread nD τ) (oM.slice (Rect.unit (s := S1024x512) off S256x256.size inb) hu) (.dma sS) hsc) (.dma sR) hsrc hdst hsem) k) Q) := by
  subst ho
  iintro ⟨#He, Hs, ⟨%fd, Hd⟩, HO, Ht₁, Ht₂⟩
  iapply (snd m ρ K c d j n hn hd hS hR (src := (oM : Memref sig .tc .vmem S1024x512 .bf16).slice (blk k₀ h₀) hu) (dstm := (oM : Memref sig .tc .vmem S1024x512 .bf16).slice (blk k₀ h₀) hu) hN f fd
    (by rw [h₁]; iintro H; unfold oPt; iexact H)
    (by
      rw [h₂, ← oPt_write (dst j c) (blk k₀ h₀) fd f]
      iintro H; unfold oPt; iexact H)) $$ [Hs Hd HO Ht₁ Ht₂]
  isplitr; · iexact He
  isplitl [Hs]; · unfold oPt; iexact Hs
  isplitl [Hd]; · unfold oPt; iexact Hd
  isplitl [HO]; · iexact HO
  isplitl [Ht₁]; · iexact Ht₁
  iexact Ht₂

/-- A copy of a half of column half 0 of the output onto the same half on another device. -/
theorem snd_h (c d : Dev nD) (j : Fin 9) (n : ℕ) (hn : j.val = 8 - n) (hd : d = dst j c) {sS sR : DmaSem sig} (hS : sS = ds (sj j)) (hR : sR = ds (rj j))
    (g₀ : Fin 2) (f : OC F) {off : Fin 2 → ℕ} {inb : ∀ a, off a + S512x256.size a ≤ S1024x512.size a} (ho : off = halfOff g₀)
    {hu : ∀ a, (Rect.unit (s := S1024x512) off S512x256.size inb).stride a = 1}
    {hsc : ((oM : Memref sig (Dev.tc d : Thread nD τ).2.kind .vmem S1024x512 .bf16).slice (Rect.unit (s := S1024x512) off S512x256.size inb) hu).view.ref.isScScratch = false}
    {hsrc : ((oM : Memref sig .tc .vmem S1024x512 .bf16).slice (Rect.unit (s := S1024x512) off S512x256.size inb) hu).view.WordExact}
    {hdst : ((oM : Memref sig .tc .vmem S1024x512 .bf16).slice (Rect.unit (s := S1024x512) off S512x256.size inb) hu).view.WordExact}
    {hsem : DmaTarget.Typed .vmem (.dma sR) (.remote (Dev.tc d : Thread nD τ) ((oM : Memref sig .tc .vmem S1024x512 .bf16).slice (Rect.unit (s := S1024x512) off S512x256.size inb) hu) (.dma sS) hsc)}
    (hN : ((oM : Memref sig .tc .vmem S1024x512 .bf16).access (half g₀)).dmaCredit = amt j)
    (h₁ : dPay m ρ c (sj j) = oPt c (half g₀) f) (h₂ : dPay m ρ (dst j c) (rj j) = oPt (dst j c) (half g₀) f)
    {α : Type} {Q : α → sProp 𝕄} {k : PUnit → Prog (TpuEff nD τ sig (Elt F) Λ₀ .tc) α} :
    iprop(env m ρ K ∗ oPt c (half g₀) f ∗ (∃ f', oPt (dst j c) (half g₀) f') ∗ Ow c (n + 1) ∗ tk c j)
      ⊢ iprop(((cr c (sj j) ∗ Ow c n) -∗ WP c (k ⟨⟩) Q)
          -∗ WP c (.op (.enqueueDma (oM.slice (Rect.unit (s := S1024x512) off S512x256.size inb) hu)
            (.remote (Dev.tc d : Thread nD τ) (oM.slice (Rect.unit (s := S1024x512) off S512x256.size inb) hu) (.dma sS) hsc) (.dma sR) hsrc hdst hsem) k) Q) := by
  subst ho
  iintro ⟨#He, Hs, ⟨%fd, Hd⟩, HO, Ht₁, Ht₂⟩
  iapply (snd m ρ K c d j n hn hd hS hR (src := (oM : Memref sig .tc .vmem S1024x512 .bf16).slice (half g₀) hu) (dstm := (oM : Memref sig .tc .vmem S1024x512 .bf16).slice (half g₀) hu) hN f fd
    (by rw [h₁]; iintro H; unfold oPt; iexact H)
    (by
      rw [h₂, ← oPt_write (dst j c) (half g₀) fd f]
      iintro H; unfold oPt; iexact H)) $$ [Hs Hd HO Ht₁ Ht₂]
  isplitr; · iexact He
  isplitl [Hs]; · unfold oPt; iexact Hs
  isplitl [Hd]; · unfold oPt; iexact Hd
  isplitl [HO]; · iexact HO
  isplitl [Ht₁]; · iexact Ht₁
  iexact Ht₂

end Cert.KernelIdealProof

end
-- ==== Proof.KernelIdeal.Part1.lean ====
/-
The first parts of the body: the barrier and the first exchange.
-/
module

public import proofs.«01_k».proof.Proof.KernelIdeal.Body1

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 18) → ℕ)

theorem devE {a b : ℕ} (e : a = b) (ha : a < nD) (hb : b < nD) : (⟨a, ha⟩ : Dev nD) = ⟨b, hb⟩ := Fin.ext e

set_option maxHeartbeats 1000000 in
/-- The entry: the device tells both neighbours that its landing places are free, and waits to hear the same of theirs. -/
theorem part1 (c : Dev nD) (W : Waits sig Unit) (Q : (Σ' (d0 : Dev nD) (v19 : BitVec 32) (v22 : BitVec 32) (v23 : BitVec 32) (v24 : BitVec 32) (v30 : BitVec 32) (v31 : BitVec 32), BitVec 32) → sProp 𝕄) :
    iprop(env m ρ K ∗ owes (c : Thread nD τ) (O₀ c) W ∗ dutyTok ER (barCell (pb c)) 0 true ∗ dutyTok ER (barCell (pg c)) 0 false
        ∗ barPay (pb c) true ∗ barPay (pg c) false ∗ cred (tallyAt (barCell c) () 2) ∗ atPos ER (barCell c) 0 ∅ 0
        ∗ ((Ow c 9 ∗ atPos ER (barCell c) 1 ∅ 0 ∗ barPay c false ∗ barPay c true) -∗ ∀ v19 v22 v23 v24 v30 v31 w, Q ⟨c, v19, v22, v23, v24, v30, v31, w⟩))
      ⊢ WP c (k0_part1 (F := F) xM (Memref.isWhole_whole _) oM (Memref.isWhole_whole _) saM (Memref.isWhole_whole _) sbM (Memref.isWhole_whole _) raM (Memref.isWhole_whole _) rbM (Memref.isWhole_whole _) taM (Memref.isWhole_whole _) tbM (Memref.isWhole_whole _) cc0_scratch6 cc0_scratch7) Q := by
  simp only [k0_part1_eq_skeleton]; unfold k0_part1_skel
  simp only [semSignalWord, semWaitWord, Prog.lift, Prog.bind_op, Prog.bind_ret, Prog.pure_eq_ret, wp_deviceId]
  iintro ⟨#He, HO, Htb, Htg, Hpb, Hpg, Hc, Hat, Hk⟩
  iapply (signal m ρ K c (pb c) _ (Fin.ext (dev_eqs c).1) true (by decide) (OB c) rfl) $$ [HO Htb Hpb]
  · isplitr; · iexact He
    isplitl [HO]; · iexact HO
    isplitl [Htb]; · iexact Htb
    iexact Hpb
  iintro HO
  iapply (signal m ρ K c (pg c) _ (Fin.ext (dev_eqs c).2.1) false (by decide) (OR c 9) rfl) $$ [HO Htg Hpg]
  · isplitr; · iexact He
    isplitl [HO]; · iexact HO
    isplitl [Htg]; · iexact Htg
    iexact Hpg
  iintro HO
  ihave HO : Ow c 9 $$ [HO]
  · unfold Ow; iexists _; iexact HO
  iapply (wait_bar m ρ K c (by decide)) $$ [Hc HO Hat]
  · isplitr; · iexact He
    isplitl [Hc]; · iexact Hc
    isplitl [HO]; · iexact HO
    iexact Hat
  iintro ⟨HO, Hat, H0, H1⟩
  iapply (ret_intro c)
  ihave Hk := Hk $$ [HO Hat H0 H1]
  · isplitl [HO]; · iexact HO
    isplitl [Hat]; · iexact Hat
    isplitl [H0]; · iexact H0
    iexact H1
  iapply Hk

set_option maxHeartbeats 1000000 in
/-- The blocks for the first exchange are stacked in the two send buffers. -/
theorem part2 (c : Dev nD) (v22 : BitVec 32) (v30 : BitVec 32) (v31 : BitVec 32) (w : BitVec 32)  (Q : PUnit → sProp 𝕄) :
    iprop(wPt c cc0_stg0_0 (xs m ρ c) ∗ (∃ f, wPt c cc0_scratch0 f) ∗ (∃ f, wPt c cc0_scratch1 f) ∗ ((wPt c cc0_stg0_0 (xs m ρ c) ∗ wPt c cc0_scratch0 (SA m ρ c) ∗ wPt c cc0_scratch1 (SB m ρ c)) -∗ Q ⟨⟩))
      ⊢ WP c (k0_part2 (F := F) xM (Memref.isWhole_whole _) oM (Memref.isWhole_whole _) saM (Memref.isWhole_whole _) sbM (Memref.isWhole_whole _) raM (Memref.isWhole_whole _) rbM (Memref.isWhole_whole _) taM (Memref.isWhole_whole _) tbM (Memref.isWhole_whole _) cc0_scratch6 cc0_scratch7 c v22 v30 v31 w) Q := by
  simp only [k0_part2_eq_skeleton]; unfold k0_part2_skel
  simp only [semSignalWord, semWaitWord, Prog.lift, Prog.bind_op, Prog.bind_ret, Prog.pure_eq_ret, wp_deviceId]
  iintro ⟨Hx, ⟨%fa, Ha⟩, ⟨%fb, Hb⟩, Hk⟩
  have e1 : k0_pay1 (rd (blk (k5 (pg c)) 0) (xs m ρ c)) = rd2 (slab 0) (SA m ρ c) := cast_slab (xs m ρ c) (k5 (pg c)) (k6 (pg c)) 0 0 (k5 (pg c)) rfl _ _
  have e2 : k0_pay2 (rd (blk (k6 (pg c)) 0) (xs m ρ c)) = rd2 (slab 1) (SA m ρ c) := cast_slab (xs m ρ c) (k5 (pg c)) (k6 (pg c)) 0 1 (k6 (pg c)) rfl _ _
  have e3 : k0_pay3 (rd (blk (k7 (pb c)) 1) (xs m ρ c)) = rd2 (slab 0) (SB m ρ c) := cast_slab (xs m ρ c) (k7 (pb c)) (k8 (pb c)) 1 0 (k7 (pb c)) rfl _ _
  have e4 : k0_pay4 (rd (blk (k8 (pb c)) 1) (xs m ρ c)) = rd2 (slab 1) (SB m ρ c) := cast_slab (xs m ρ c) (k7 (pb c)) (k8 (pb c)) 1 1 (k8 (pb c)) rfl _ _
  iapply (ld_x c (k5 (pg c)) 0 _ (off1_eq c)) $$ Hx; iintro Hx
  iapply (ld_sa c 0 _ rfl) $$ Ha; iintro Ha
  rw [e1]
  iapply (st_sa c 0 _ rfl) $$ Ha; iintro Ha
  iapply (ld_x c (k6 (pg c)) 0 _ (off2_eq c)) $$ Hx; iintro Hx
  iapply (ld_sa c 1 _ rfl) $$ Ha; iintro Ha
  rw [e2]
  iapply (st_sa c 1 _ rfl) $$ Ha; iintro Ha
  iapply (ld_x c (k7 (pb c)) 1 _ (off3_eq c)) $$ Hx; iintro Hx
  iapply (ld_sb c 0 _ rfl) $$ Hb; iintro Hb
  rw [e3]
  iapply (st_sb c 0 _ rfl) $$ Hb; iintro Hb
  iapply (ld_x c (k8 (pb c)) 1 _ (off4_eq c)) $$ Hx; iintro Hx
  iapply (ld_sb c 1 _ rfl) $$ Hb; iintro Hb
  rw [e4]
  iapply (st_sb c 1 _ rfl) $$ Hb; iintro Hb
  rw [two_sa, two_sb]
  iapply (ret_intro c)
  iapply Hk
  isplitl [Hx]; · iexact Hx
  isplitl [Ha]; · iexact Ha
  iexact Hb

set_option maxHeartbeats 1000000 in
/-- Both copies of the first exchange are enqueued; two of the device's own blocks go from the input to the output. -/
theorem part3 (c : Dev nD) (v19 : BitVec 32) (v22 : BitVec 32) (v23 : BitVec 32) (v24 : BitVec 32) (f5 f6 : OC F) (Q : PUnit → sProp 𝕄) :
    iprop(env m ρ K ∗ wPt c cc0_scratch0 (SA m ρ c) ∗ wPt c cc0_scratch1 (SB m ρ c) ∗ (∃ f, wPt (pg c) cc0_scratch2 f) ∗ (∃ f, wPt (pb c) cc0_scratch3 f)
        ∗ Ow c 9 ∗ tk c 0 ∗ tk c 1 ∗ wPt c cc0_stg0_0 (xs m ρ c) ∗ oPt c (blk (k5 c) 0) f5 ∗ oPt c (blk (k6 c) 0) f6 ∗ ((cr c (sj 0) ∗ cr c (sj 1) ∗ Ow c 7 ∗ wPt c cc0_stg0_0 (xs m ρ c) ∗ oPt c (blk (k5 c) 0) (xs m ρ c) ∗ oPt c (blk (k6 c) 0) (xs m ρ c)) -∗ Q ⟨⟩))
      ⊢ WP c (k0_part3 (F := F) xM (Memref.isWhole_whole _) oM (Memref.isWhole_whole _) saM (Memref.isWhole_whole _) sbM (Memref.isWhole_whole _) raM (Memref.isWhole_whole _) rbM (Memref.isWhole_whole _) taM (Memref.isWhole_whole _) tbM (Memref.isWhole_whole _) cc0_scratch6 cc0_scratch7 c v19 v22 v23 v24) Q := by
  simp only [k0_part3_eq_skeleton]; unfold k0_part3_skel
  simp only [semSignalWord, semWaitWord, Prog.lift, Prog.bind_op, Prog.bind_ret, Prog.pure_eq_ret, wp_deviceId]
  iintro ⟨#He, Ha, Hb, Hd0, Hd1, HO, Ht0, Ht1, Hx, H5, H6, Hk⟩
  iapply (snd_0 m ρ K c _ (Fin.ext (dev_eqs c).2.2.1) rfl rfl) $$ [Ha Hd0 HO Ht0]
  · isplitr; · iexact He
    isplitl [Ha]; · iexact Ha
    isplitl [Hd0]; · iexact Hd0
    isplitl [HO]; · iexact HO
    iexact Ht0
  iintro ⟨Hc0, HO⟩
  iapply (snd_1 m ρ K c _ (Fin.ext (dev_eqs c).2.2.2.1) rfl rfl) $$ [Hb Hd1 HO Ht1]
  · isplitr; · iexact He
    isplitl [Hb]; · iexact Hb
    isplitl [Hd1]; · iexact Hd1
    isplitl [HO]; · iexact HO
    iexact Ht1
  iintro ⟨Hc1, HO⟩
  iapply (ld_x c (k5 c) 0 _ (off5_eq c)) $$ Hx; iintro Hx
  iapply (ld_o c (k5 c) 0 _ (off5_eq c)) $$ H5; iintro H5
  iapply (st_o c (k5 c) 0 _ (xs m ρ c) (off5_eq c) (idx_cast _ _ _ _)) $$ H5; iintro H5
  iapply (ld_x c (k6 c) 0 _ (off6_eq c)) $$ Hx; iintro Hx
  iapply (ld_o c (k6 c) 0 _ (off6_eq c)) $$ H6; iintro H6
  iapply (st_o c (k6 c) 0 _ (xs m ρ c) (off6_eq c) (idx_cast _ _ _ _)) $$ H6; iintro H6
  iapply (ret_intro c)
  iapply Hk
  isplitl [Hc0]; · iexact Hc0
  isplitl [Hc1]; · iexact Hc1
  isplitl [HO]; · iexact HO
  isplitl [Hx]; · iexact Hx
  isplitl [H5]; · iexact H5
  iexact H6

set_option maxHeartbeats 1000000 in
/-- The other two own blocks go to the output; the first exchange completes. -/
theorem part4 (c : Dev nD) (v19 : BitVec 32) (v22 : BitVec 32) (v23 : BitVec 32) (v24 : BitVec 32) (f7 f8 : OC F) (Q : PUnit → sProp 𝕄) :
    iprop(env m ρ K ∗ cr c (sj 0) ∗ cr c (rj 0) ∗ cr c (sj 1) ∗ cr c (rj 1) ∗ p0 c (sj 0) ∗ p0 c (rj 0) ∗ p0 c (sj 1) ∗ p0 c (rj 1)
        ∗ Ow c 7 ∗ wPt c cc0_stg0_0 (xs m ρ c) ∗ oPt c (blk (k7 c) 1) f7 ∗ oPt c (blk (k8 c) 1) f8 ∗ (((p1 c (sj 0) ∗ p1 c (rj 0) ∗ p1 c (sj 1) ∗ p1 c (rj 1)) ∗ (∃ f, wPt c cc0_scratch0 f) ∗ wPt c cc0_scratch2 (RA m ρ c) ∗ (∃ f, wPt c cc0_scratch1 f) ∗ wPt c cc0_scratch3 (RB m ρ c)
        ∗ Ow c 7 ∗ wPt c cc0_stg0_0 (xs m ρ c) ∗ oPt c (blk (k7 c) 1) (xs m ρ c) ∗ oPt c (blk (k8 c) 1) (xs m ρ c)) -∗ Q ⟨⟩))
      ⊢ WP c (k0_part4 (F := F) xM (Memref.isWhole_whole _) oM (Memref.isWhole_whole _) saM (Memref.isWhole_whole _) sbM (Memref.isWhole_whole _) raM (Memref.isWhole_whole _) rbM (Memref.isWhole_whole _) taM (Memref.isWhole_whole _) tbM (Memref.isWhole_whole _) cc0_scratch6 cc0_scratch7 c v19 v22 v23 v24) Q := by
  simp only [k0_part4_eq_skeleton]; unfold k0_part4_skel
  simp only [semSignalWord, semWaitWord, Prog.lift, Prog.bind_op, Prog.bind_ret, Prog.pure_eq_ret, wp_deviceId]
  iintro ⟨#He, Hc0, Hc1, Hc2, Hc3, Ha0, Ha1, Ha2, Ha3, HO, Hx, H7, H8, Hk⟩
  iapply (ld_x c (k7 c) 1 _ (off7_eq c)) $$ Hx; iintro Hx
  iapply (ld_o c (k7 c) 1 _ (off7_eq c)) $$ H7; iintro H7
  iapply (st_o c (k7 c) 1 _ (xs m ρ c) (off7_eq c) (idx_cast _ _ _ _)) $$ H7; iintro H7
  iapply (ld_x c (k8 c) 1 _ (off8_eq c)) $$ Hx; iintro Hx
  iapply (ld_o c (k8 c) 1 _ (off8_eq c)) $$ H8; iintro H8
  iapply (st_o c (k8 c) 1 _ (xs m ρ c) (off8_eq c) (idx_cast _ _ _ _)) $$ H8; iintro H8
  iapply (wait_d m ρ K c (sj 0) 7 rfl ((cred_sa.trans amt_0.symm).trans (dAmt_sj 0).symm) (by decide)) $$ [Hc0 HO Ha0]
  · isplitr; · iexact He
    isplitl [Hc0]; · iexact Hc0
    isplitl [HO]; · iexact HO
    iexact Ha0
  iintro ⟨HO, Ha0, P0⟩
  ihave P0 := (Entails.of_eq (dp_s0 m ρ c)) $$ P0
  iapply (wait_d m ρ K c (rj 0) 7 rfl (((Eq.refl N2).trans amt_0.symm).trans (dAmt_rj 0).symm) (by decide)) $$ [Hc1 HO Ha1]
  · isplitr; · iexact He
    isplitl [Hc1]; · iexact Hc1
    isplitl [HO]; · iexact HO
    iexact Ha1
  iintro ⟨HO, Ha1, P1⟩
  ihave P1 := (Entails.of_eq (dp_r0 m ρ c)) $$ P1
  iapply (wait_d m ρ K c (sj 1) 7 rfl ((cred_sb.trans amt_1.symm).trans (dAmt_sj 1).symm) (by decide)) $$ [Hc2 HO Ha2]
  · isplitr; · iexact He
    isplitl [Hc2]; · iexact Hc2
    isplitl [HO]; · iexact HO
    iexact Ha2
  iintro ⟨HO, Ha2, P2⟩
  ihave P2 := (Entails.of_eq (dp_s1 m ρ c)) $$ P2
  iapply (wait_d m ρ K c (rj 1) 7 rfl ((cred_rb.trans amt_1.symm).trans (dAmt_rj 1).symm) (by decide)) $$ [Hc3 HO Ha3]
  · isplitr; · iexact He
    isplitl [Hc3]; · iexact Hc3
    isplitl [HO]; · iexact HO
    iexact Ha3
  iintro ⟨HO, Ha3, P3⟩
  ihave P3 := (Entails.of_eq (dp_r1 m ρ c)) $$ P3
  iapply (ret_intro c)
  iapply Hk
  isplitl [Ha0 Ha1 Ha2 Ha3]
  · isplitl [Ha0]; · iexact Ha0
    isplitl [Ha1]; · iexact Ha1
    isplitl [Ha2]; · iexact Ha2
    iexact Ha3
  isplitl [P0]; · iexact P0
  isplitl [P1]; · iexact P1
  isplitl [P2]; · iexact P2
  isplitl [P3]; · iexact P3
  isplitl [HO]; · iexact HO
  isplitl [Hx]; · iexact Hx
  isplitl [H7]; · iexact H7
  iexact H8

end Cert.KernelIdealProof

end
-- ==== Proof.KernelIdeal.Part2.lean ====
/-
The middle parts of the body: the first sums and the second exchange.
-/
module

public import proofs.«01_k».proof.Proof.KernelIdeal.Part1

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 18) → ℕ)

set_option maxHeartbeats 1000000 in
/-- The first sums: what has landed is added to the device's own blocks of column half 0, and the first of column half 1 is computed. -/
theorem part5 (c : Dev nD) (v19 : BitVec 32) (v22 : BitVec 32)  (Q : FVec F S256x256 .bf16 → sProp 𝕄) :
    iprop(oPt c (blk (k5 c) 0) (xs m ρ c) ∗ oPt c (blk (k6 c) 0) (xs m ρ c) ∗ wPt c cc0_scratch2 (RA m ρ c) ∗ oPt c (blk (k7 c) 1) (xs m ρ c) ∗ wPt c cc0_scratch3 (RB m ρ c) ∗ ((oPt c (blk (k5 c) 0) (A1 m ρ c) ∗ oPt c (blk (k6 c) 0) (A1 m ρ c) ∗ wPt c cc0_scratch2 (RA m ρ c) ∗ oPt c (blk (k7 c) 1) (xs m ρ c) ∗ wPt c cc0_scratch3 (RB m ρ c)) -∗ Q (rd (blk (k7 c) 1) (B1 m ρ c))))
      ⊢ WP c (k0_part5 (F := F) xM (Memref.isWhole_whole _) oM (Memref.isWhole_whole _) saM (Memref.isWhole_whole _) sbM (Memref.isWhole_whole _) raM (Memref.isWhole_whole _) rbM (Memref.isWhole_whole _) taM (Memref.isWhole_whole _) tbM (Memref.isWhole_whole _) cc0_scratch6 cc0_scratch7 c v19 v22) Q := by
  simp only [k0_part5_eq_skeleton]; unfold k0_part5_skel
  simp only [semSignalWord, semWaitWord, Prog.lift, Prog.bind_op, Prog.bind_ret, Prog.pure_eq_ret, wp_deviceId]
  iintro ⟨H5, H6, Hr, H7, Hs, Hk⟩
  have e1 : k0_pay9 (rd (blk (k5 c) 0) (xs m ρ c)) (rd2 (slab 0) (RA m ρ c)) = rd (blk (k5 c) 0) (A1 m ρ c) := add_slab (xs m ρ c) (xs m ρ (pg c)) (k5 c) (k6 c) 0 0 (k5 c) rfl
  have e2 : k0_pay10 (rd (blk (k6 c) 0) (xs m ρ c)) (rd2 (slab 1) (RA m ρ c)) = rd (blk (k6 c) 0) (A1 m ρ c) := add_slab (xs m ρ c) (xs m ρ (pg c)) (k5 c) (k6 c) 0 1 (k6 c) rfl
  have e3 : k0_pay11 (rd (blk (k7 c) 1) (xs m ρ c)) (rd2 (slab 0) (RB m ρ c)) = rd (blk (k7 c) 1) (B1 m ρ c) := add_slab (xs m ρ c) (xs m ρ (pb c)) (k7 c) (k8 c) 1 0 (k7 c) rfl
  iapply (ld_o c (k5 c) 0 _ (off5_eq c)) $$ H5; iintro H5
  iapply (ld_ra c 0 _ rfl) $$ Hr; iintro Hr
  iapply (ld_o c (k5 c) 0 _ (off5_eq c)) $$ H5; iintro H5
  iapply (st_o c (k5 c) 0 _ (A1 m ρ c) (off5_eq c) e1) $$ H5; iintro H5
  iapply (ld_o c (k6 c) 0 _ (off6_eq c)) $$ H6; iintro H6
  iapply (ld_ra c 1 _ rfl) $$ Hr; iintro Hr
  iapply (ld_o c (k6 c) 0 _ (off6_eq c)) $$ H6; iintro H6
  iapply (st_o c (k6 c) 0 _ (A1 m ρ c) (off6_eq c) e2) $$ H6; iintro H6
  iapply (ld_o c (k7 c) 1 _ (off7_eq c)) $$ H7; iintro H7
  iapply (ld_rb c 0 _ rfl) $$ Hs; iintro Hs
  iapply (ld_o c (k7 c) 1 _ (off7_eq c)) $$ H7; iintro H7
  rw [e3]
  iapply (ret_intro c)
  iapply Hk
  isplitl [H5]; · iexact H5
  isplitl [H6]; · iexact H6
  isplitl [Hr]; · iexact Hr
  isplitl [H7]; · iexact H7
  iexact Hs

set_option maxHeartbeats 1000000 in
/-- The sums of column half 1 are stored, and the first copy of the second exchange is enqueued. -/
theorem part6 (c : Dev nD) (v19 : BitVec 32) (v22 : BitVec 32) (v23 : BitVec 32) (v24 : BitVec 32)  (Q : BitVec 32 → sProp 𝕄) :
    iprop(env m ρ K ∗ oPt c (blk (k7 c) 1) (xs m ρ c) ∗ wPt c cc0_scratch3 (RB m ρ c) ∗ oPt c (blk (k8 c) 1) (xs m ρ c)
        ∗ oPt c (blk (kown (pb c)) 0) (A1 m ρ c) ∗ (∃ f, wPt (pb c) cc0_scratch4 f) ∗ Ow c 7 ∗ tk c 2 ∗ ((oPt c (blk (k7 c) 1) (B1 m ρ c) ∗ wPt c cc0_scratch3 (RB m ρ c) ∗ oPt c (blk (k8 c) 1) (B1 m ρ c) ∗ cr c (sj 2) ∗ Ow c 6) -∗ ∀ v, Q v))
      ⊢ WP c (k0_part6 (F := F) xM (Memref.isWhole_whole _) oM (Memref.isWhole_whole _) saM (Memref.isWhole_whole _) sbM (Memref.isWhole_whole _) raM (Memref.isWhole_whole _) rbM (Memref.isWhole_whole _) taM (Memref.isWhole_whole _) tbM (Memref.isWhole_whole _) cc0_scratch6 cc0_scratch7 c v19 v22 v23 v24 (rd (blk (k7 c) 1) (B1 m ρ c))) Q := by
  simp only [k0_part6_eq_skeleton]; unfold k0_part6_skel
  simp only [semSignalWord, semWaitWord, Prog.lift, Prog.bind_op, Prog.bind_ret, Prog.pure_eq_ret, wp_deviceId]
  iintro ⟨#He, H7, Hs, H8, Ho, Hd, HO, Ht, Hk⟩
  have e1 : k0_pay12 (rd (blk (k8 c) 1) (xs m ρ c)) (rd2 (slab 1) (RB m ρ c)) = rd (blk (k8 c) 1) (B1 m ρ c) := add_slab (xs m ρ c) (xs m ρ (pb c)) (k7 c) (k8 c) 1 1 (k8 c) rfl
  iapply (st_o c (k7 c) 1 _ (B1 m ρ c) (off7_eq c) rfl) $$ H7; iintro H7
  iapply (ld_o c (k8 c) 1 _ (off8_eq c)) $$ H8; iintro H8
  iapply (ld_rb c 1 _ rfl) $$ Hs; iintro Hs
  iapply (ld_o c (k8 c) 1 _ (off8_eq c)) $$ H8; iintro H8
  iapply (st_o c (k8 c) 1 _ (B1 m ρ c) (off8_eq c) e1) $$ H8; iintro H8
  iapply (snd_2 m ρ K c _ (Fin.ext (dev_eqs c).2.2.2.2.1) rfl rfl (off9_eq c)) $$ [Ho Hd HO Ht]
  · isplitr; · iexact He
    isplitl [Ho]; · iexact Ho
    isplitl [Hd]; · iexact Hd
    isplitl [HO]; · iexact HO
    iexact Ht
  iintro ⟨Hc, HO⟩
  iapply (ret_intro c)
  ihave Hk := Hk $$ [H7 Hs H8 Hc HO]
  · isplitl [H7]; · iexact H7
    isplitl [Hs]; · iexact Hs
    isplitl [H8]; · iexact H8
    isplitl [Hc]; · iexact Hc
    iexact HO
  iapply Hk

set_option maxHeartbeats 1000000 in
/-- The other copy of the second exchange is enqueued, the exchange completes, and the device completes its block of column half 0. -/
theorem part7 (c : Dev nD) (v23 : BitVec 32) (v24 : BitVec 32) (v173 : BitVec 32)  (Q : PUnit → sProp 𝕄) :
    iprop(env m ρ K ∗ oPt c (blk (kown (pg c)) 1) (B1 m ρ c) ∗ (∃ f, wPt (pg c) cc0_scratch5 f) ∗ Ow c 6 ∗ tk c 3
        ∗ cr c (sj 2) ∗ cr c (rj 2) ∗ cr c (rj 3) ∗ p0 c (sj 2) ∗ p0 c (rj 2) ∗ p0 c (sj 3) ∗ p0 c (rj 3) ∗ oPt c (blk (kown c) 0) (A1 m ρ c) ∗ (((p1 c (sj 2) ∗ p1 c (rj 2) ∗ p1 c (sj 3) ∗ p1 c (rj 3)) ∗ wPt c cc0_scratch4 (TA m ρ c) ∗ oPt (pb c) (blk (kown c) 0) (A1 m ρ (pb c))
        ∗ wPt c cc0_scratch5 (TB m ρ c) ∗ oPt (pg c) (blk (kown c) 1) (B1 m ρ (pg c)) ∗ Ow c 5 ∗ oPt c (blk (kown c) 0) (FIN m ρ)) -∗ Q ⟨⟩))
      ⊢ WP c (k0_part7 (F := F) xM (Memref.isWhole_whole _) oM (Memref.isWhole_whole _) saM (Memref.isWhole_whole _) sbM (Memref.isWhole_whole _) raM (Memref.isWhole_whole _) rbM (Memref.isWhole_whole _) taM (Memref.isWhole_whole _) tbM (Memref.isWhole_whole _) cc0_scratch6 cc0_scratch7 c v23 v24 v173) Q := by
  simp only [k0_part7_eq_skeleton]; unfold k0_part7_skel
  simp only [semSignalWord, semWaitWord, Prog.lift, Prog.bind_op, Prog.bind_ret, Prog.pure_eq_ret, wp_deviceId]
  iintro ⟨#He, Ho, Hd, HO, Ht, Hc0, Hc1, Hc3, Ha0, Ha1, Ha2, Ha3, H11, Hk⟩
  have e1 : k0_pay13 (rd (blk (kown c) 0) (A1 m ρ c)) (TA m ρ c) = rd (blk (kown c) 0) (A2 m ρ c) := add_blk (A1 m ρ c) (A1 m ρ (pb c)) (kown c) 0
  iapply (snd_3 m ρ K c _ (Fin.ext (dev_eqs c).2.2.2.2.2.1) rfl rfl (off10_eq c)) $$ [Ho Hd HO Ht]
  · isplitr; · iexact He
    isplitl [Ho]; · iexact Ho
    isplitl [Hd]; · iexact Hd
    isplitl [HO]; · iexact HO
    iexact Ht
  iintro ⟨Hc2, HO⟩
  iapply (wait_d m ρ K c (sj 2) 5 rfl ((cred_b.trans amt_2.symm).trans (dAmt_sj 2).symm) (by decide)) $$ [Hc0 HO Ha0]
  · isplitr; · iexact He
    isplitl [Hc0]; · iexact Hc0
    isplitl [HO]; · iexact HO
    iexact Ha0
  iintro ⟨HO, Ha0, P0⟩
  ihave P0 := (Entails.of_eq (dp_s2 m ρ c)) $$ P0
  iapply (wait_d m ρ K c (rj 2) 5 rfl (((Eq.refl N1).trans amt_2.symm).trans (dAmt_rj 2).symm) (by decide)) $$ [Hc1 HO Ha1]
  · isplitr; · iexact He
    isplitl [Hc1]; · iexact Hc1
    isplitl [HO]; · iexact HO
    iexact Ha1
  iintro ⟨HO, Ha1, P1⟩
  ihave P1 := (Entails.of_eq (dp_r2 m ρ c)) $$ P1
  iapply (wait_d m ρ K c (sj 3) 5 rfl ((cred_b.trans amt_3.symm).trans (dAmt_sj 3).symm) (by decide)) $$ [Hc2 HO Ha2]
  · isplitr; · iexact He
    isplitl [Hc2]; · iexact Hc2
    isplitl [HO]; · iexact HO
    iexact Ha2
  iintro ⟨HO, Ha2, P2⟩
  ihave P2 := (Entails.of_eq (dp_s3 m ρ c)) $$ P2
  iapply (wait_d m ρ K c (rj 3) 5 rfl ((cred_tb.trans amt_3.symm).trans (dAmt_rj 3).symm) (by decide)) $$ [Hc3 HO Ha3]
  · isplitr; · iexact He
    isplitl [Hc3]; · iexact Hc3
    isplitl [HO]; · iexact HO
    iexact Ha3
  iintro ⟨HO, Ha3, P3⟩
  ihave P3 := (Entails.of_eq (dp_r3 m ρ c)) $$ P3
  icases P1 with ⟨Hta, Hob⟩
  icases P3 with ⟨Htb, Hog⟩
  iapply (ld_o c (kown c) 0 _ (off11_eq c)) $$ H11; iintro H11
  iapply (ld_ta c _ rfl) $$ Hta; iintro Hta
  iapply (ld_o c (kown c) 0 _ (off11_eq c)) $$ H11; iintro H11
  iapply (st_o c (kown c) 0 _ (A2 m ρ c) (off11_eq c) e1) $$ H11; iintro H11
  ihave H11 := (Entails.of_eq (oPt_congr c (blk (kown c) 0) (fin_A m ρ c))) $$ H11
  iapply (ret_intro c)
  iapply Hk
  isplitl [Ha0 Ha1 Ha2 Ha3]
  · isplitl [Ha0]; · iexact Ha0
    isplitl [Ha1]; · iexact Ha1
    isplitl [Ha2]; · iexact Ha2
    iexact Ha3
  isplitl [Hta]; · iexact Hta
  isplitl [Hob]; · iexact Hob
  isplitl [Htb]; · iexact Htb
  isplitl [Hog]; · iexact Hog
  isplitl [HO]; · iexact HO
  iexact H11

set_option maxHeartbeats 1000000 in
/-- The device completes its block of column half 1, and the copies of both completed blocks are enqueued. -/
theorem part8 (c : Dev nD) (v23 : BitVec 32) (v24 : BitVec 32) (v173 : BitVec 32)  (Q : PUnit → sProp 𝕄) :
    iprop(env m ρ K ∗ oPt c (blk (kown c) 1) (B1 m ρ c) ∗ wPt c cc0_scratch5 (TB m ρ c) ∗ oPt c (blk (kown c) 0) (FIN m ρ) ∗ (∃ f, oPt (pb c) (blk (kown c) 0) f)
        ∗ (∃ f, oPt (pg c) (blk (kown c) 1) f) ∗ Ow c 5 ∗ tk c 4 ∗ tk c 5 ∗ ((wPt c cc0_scratch5 (TB m ρ c) ∗ cr c (sj 4) ∗ cr c (sj 5) ∗ Ow c 3) -∗ Q ⟨⟩))
      ⊢ WP c (k0_part8 (F := F) xM (Memref.isWhole_whole _) oM (Memref.isWhole_whole _) saM (Memref.isWhole_whole _) sbM (Memref.isWhole_whole _) raM (Memref.isWhole_whole _) rbM (Memref.isWhole_whole _) taM (Memref.isWhole_whole _) tbM (Memref.isWhole_whole _) cc0_scratch6 cc0_scratch7 c v23 v24 v173) Q := by
  simp only [k0_part8_eq_skeleton]; unfold k0_part8_skel
  simp only [semSignalWord, semWaitWord, Prog.lift, Prog.bind_op, Prog.bind_ret, Prog.pure_eq_ret, wp_deviceId]
  iintro ⟨#He, H12, Htb, H11, Hd4, Hd5, HO, Ht4, Ht5, Hk⟩
  have e1 : k0_pay14 (rd (blk (kown c) 1) (B1 m ρ c)) (TB m ρ c) = rd (blk (kown c) 1) (B2 m ρ c) := add_blk (B1 m ρ c) (B1 m ρ (pg c)) (kown c) 1
  have r4 : dPay m ρ (pb c) (rj 4) = oPt (pb c) (blk (kown c) 0) (FIN m ρ) := (dp_r4 m ρ (pb c)).trans (by rw [pb_pb])
  have r5 : dPay m ρ (pg c) (rj 5) = oPt (pg c) (blk (kown c) 1) (FIN m ρ) := (dp_r5 m ρ (pg c)).trans (by rw [pg_pg])
  iapply (ld_o c (kown c) 1 _ (off12_eq c)) $$ H12; iintro H12
  iapply (ld_tb c _ rfl) $$ Htb; iintro Htb
  iapply (ld_o c (kown c) 1 _ (off12_eq c)) $$ H12; iintro H12
  iapply (st_o c (kown c) 1 _ (B2 m ρ c) (off12_eq c) e1) $$ H12; iintro H12
  ihave H12 := (Entails.of_eq (oPt_congr c (blk (kown c) 1) (fin_B m ρ c))) $$ H12
  iapply (snd_b m ρ K c _ 4 4 rfl (Fin.ext (dev_eqs c).2.2.2.2.2.2.1) rfl rfl (kown c) 0 (FIN m ρ) (off13_eq c) ((cred_bk _ _).trans amt_4.symm) (dp_s4 m ρ c) r4) $$ [H11 Hd4 HO Ht4]
  · isplitr; · iexact He
    isplitl [H11]; · iexact H11
    isplitl [Hd4]; · iexact Hd4
    isplitl [HO]; · iexact HO
    iexact Ht4
  iintro ⟨Hc4, HO⟩
  iapply (snd_b m ρ K c _ 5 3 rfl (Fin.ext (dev_eqs c).2.2.2.2.2.2.2.1) rfl rfl (kown c) 1 (FIN m ρ) (off14_eq c) ((cred_bk _ _).trans amt_5.symm) (dp_s5 m ρ c) r5) $$ [H12 Hd5 HO Ht5]
  · isplitr; · iexact He
    isplitl [H12]; · iexact H12
    isplitl [Hd5]; · iexact Hd5
    isplitl [HO]; · iexact HO
    iexact Ht5
  iintro ⟨Hc5, HO⟩
  iapply (ret_intro c)
  iapply Hk
  isplitl [Htb]; · iexact Htb
  isplitl [Hc4]; · iexact Hc4
  isplitl [Hc5]; · iexact Hc5
  iexact HO

end Cert.KernelIdealProof

end
-- ==== Proof.KernelIdeal.Part3.lean ====
/-
The last parts of the body: the completed sums travel.
-/
module

public import proofs.«01_k».proof.Proof.KernelIdeal.Part2

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 18) → ℕ)

set_option maxHeartbeats 1000000 in
/-- The exchange of the completed blocks completes. -/
theorem part9 (c : Dev nD) (v19 : BitVec 32) (v22 : BitVec 32) (v23 : BitVec 32) (v24 : BitVec 32)  (Q : BitVec 32 → sProp 𝕄) :
    iprop(env m ρ K ∗ Ow c 3 ∗ cr c (sj 4) ∗ cr c (rj 4) ∗ cr c (sj 5) ∗ cr c (rj 5) ∗ p0 c (sj 4) ∗ p0 c (rj 4) ∗ p0 c (sj 5) ∗ p0 c (rj 5) ∗ (((p1 c (sj 4) ∗ p1 c (rj 4) ∗ p1 c (sj 5) ∗ p1 c (rj 5)) ∗ Ow c 3 ∗ oPt c (blk (kown c) 0) (FIN m ρ) ∗ oPt c (blk (kown (pb c)) 0) (FIN m ρ)
        ∗ oPt c (blk (kown c) 1) (FIN m ρ) ∗ oPt c (blk (kown (pg c)) 1) (FIN m ρ)) -∗ ∀ v, Q v))
      ⊢ WP c (k0_part9 (F := F) xM (Memref.isWhole_whole _) oM (Memref.isWhole_whole _) saM (Memref.isWhole_whole _) sbM (Memref.isWhole_whole _) raM (Memref.isWhole_whole _) rbM (Memref.isWhole_whole _) taM (Memref.isWhole_whole _) tbM (Memref.isWhole_whole _) cc0_scratch6 cc0_scratch7 c v19 v22 v23 v24) Q := by
  simp only [k0_part9_eq_skeleton]; unfold k0_part9_skel
  simp only [semSignalWord, semWaitWord, Prog.lift, Prog.bind_op, Prog.bind_ret, Prog.pure_eq_ret, wp_deviceId]
  iintro ⟨#He, HO, Hc0, Hc1, Hc2, Hc3, Ha0, Ha1, Ha2, Ha3, Hk⟩
  iapply (wait_d m ρ K c (sj 4) 3 rfl ((cred_b.trans amt_4.symm).trans (dAmt_sj 4).symm) (by decide)) $$ [Hc0 HO Ha0]
  · isplitr; · iexact He
    isplitl [Hc0]; · iexact Hc0
    isplitl [HO]; · iexact HO
    iexact Ha0
  iintro ⟨HO, Ha0, P0⟩
  ihave P0 := (Entails.of_eq (dp_s4 m ρ c)) $$ P0
  iapply (wait_d m ρ K c (rj 4) 3 rfl ((cred_b.trans amt_4.symm).trans (dAmt_rj 4).symm) (by decide)) $$ [Hc1 HO Ha1]
  · isplitr; · iexact He
    isplitl [Hc1]; · iexact Hc1
    isplitl [HO]; · iexact HO
    iexact Ha1
  iintro ⟨HO, Ha1, P1⟩
  ihave P1 := (Entails.of_eq (dp_r4 m ρ c)) $$ P1
  iapply (wait_d m ρ K c (sj 5) 3 rfl ((cred_b.trans amt_5.symm).trans (dAmt_sj 5).symm) (by decide)) $$ [Hc2 HO Ha2]
  · isplitr; · iexact He
    isplitl [Hc2]; · iexact Hc2
    isplitl [HO]; · iexact HO
    iexact Ha2
  iintro ⟨HO, Ha2, P2⟩
  ihave P2 := (Entails.of_eq (dp_s5 m ρ c)) $$ P2
  iapply (wait_d m ρ K c (rj 5) 3 rfl ((cred_b.trans amt_5.symm).trans (dAmt_rj 5).symm) (by decide)) $$ [Hc3 HO Ha3]
  · isplitr; · iexact He
    isplitl [Hc3]; · iexact Hc3
    isplitl [HO]; · iexact HO
    iexact Ha3
  iintro ⟨HO, Ha3, P3⟩
  ihave P3 := (Entails.of_eq (dp_r5 m ρ c)) $$ P3
  iapply (ret_intro c)
  ihave Hk := Hk $$ [Ha0 Ha1 Ha2 Ha3 HO P0 P1 P2 P3]
  · isplitl [Ha0 Ha1 Ha2 Ha3]
    · isplitl [Ha0]; · iexact Ha0
      isplitl [Ha1]; · iexact Ha1
      isplitl [Ha2]; · iexact Ha2
      iexact Ha3
    isplitl [HO]; · iexact HO
    isplitl [P0]; · iexact P0
    isplitl [P1]; · iexact P1
    isplitl [P2]; · iexact P2
    iexact P3
  iapply Hk

set_option maxHeartbeats 1000000 in
/-- The last three copies are enqueued, and the first of them has been sent. -/
theorem part10 (c : Dev nD) (v23 : BitVec 32) (v24 : BitVec 32) (v278 : BitVec 32)  (Q : PUnit → sProp 𝕄) :
    iprop(env m ρ K ∗ Ow c 3 ∗ oPt c (half (gh c)) (FIN m ρ) ∗ (∃ f, oPt (pg c) (half (gh c)) f) ∗ oPt c (blk (k7 c) 1) (FIN m ρ) ∗ (∃ f, oPt (pb c) (blk (k7 c) 1) f)
        ∗ oPt c (blk (k8 c) 1) (FIN m ρ) ∗ (∃ f, oPt (pb c) (blk (k8 c) 1) f) ∗ tk c 6 ∗ tk c 7 ∗ tk c 8 ∗ p0 c (sj 6) ∗ ((Ow c 0 ∗ cr c (sj 7) ∗ cr c (sj 8) ∗ p1 c (sj 6) ∗ oPt c (half (gh c)) (FIN m ρ)) -∗ Q ⟨⟩))
      ⊢ WP c (k0_part10 (F := F) xM (Memref.isWhole_whole _) oM (Memref.isWhole_whole _) saM (Memref.isWhole_whole _) sbM (Memref.isWhole_whole _) raM (Memref.isWhole_whole _) rbM (Memref.isWhole_whole _) taM (Memref.isWhole_whole _) tbM (Memref.isWhole_whole _) cc0_scratch6 cc0_scratch7 c v23 v24 v278) Q := by
  simp only [k0_part10_eq_skeleton]; unfold k0_part10_skel
  simp only [semSignalWord, semWaitWord, Prog.lift, Prog.bind_op, Prog.bind_ret, Prog.pure_eq_ret, wp_deviceId]
  iintro ⟨#He, HO, H6, Hd6, H7, Hd7, H8, Hd8, Ht6, Ht7, Ht8, Ha, Hk⟩
  have r6 : dPay m ρ (pg c) (rj 6) = oPt (pg c) (half (gh c)) (FIN m ρ) := (dp_r6 m ρ (pg c)).trans (by rw [pg_pg])
  have r7 : dPay m ρ (pb c) (rj 7) = oPt (pb c) (blk (k7 c) 1) (FIN m ρ) := (dp_r7 m ρ (pb c)).trans (by rw [pb_pb])
  have r8 : dPay m ρ (pb c) (rj 8) = oPt (pb c) (blk (k8 c) 1) (FIN m ρ) := (dp_r8 m ρ (pb c)).trans (by rw [pb_pb])
  iapply (snd_h m ρ K c _ 6 2 rfl (Fin.ext (dev_eqs c).2.2.2.2.2.2.2.2.1) rfl rfl (gh c) (FIN m ρ) (off15_eq c) ((cred_hk _).trans amt_6.symm) (dp_s6 m ρ c) r6) $$ [H6 Hd6 HO Ht6]
  · isplitr; · iexact He
    isplitl [H6]; · iexact H6
    isplitl [Hd6]; · iexact Hd6
    isplitl [HO]; · iexact HO
    iexact Ht6
  iintro ⟨Hc6, HO⟩
  iapply (snd_b m ρ K c _ 7 1 rfl (Fin.ext (dev_eqs c).2.2.2.2.2.2.2.2.2.1) rfl rfl (k7 c) 1 (FIN m ρ) (off16_eq c) ((cred_bk _ _).trans amt_7.symm) (dp_s7 m ρ c) r7) $$ [H7 Hd7 HO Ht7]
  · isplitr; · iexact He
    isplitl [H7]; · iexact H7
    isplitl [Hd7]; · iexact Hd7
    isplitl [HO]; · iexact HO
    iexact Ht7
  iintro ⟨Hc7, HO⟩
  iapply (snd_b m ρ K c _ 8 0 rfl (Fin.ext (dev_eqs c).2.2.2.2.2.2.2.2.2.2) rfl rfl (k8 c) 1 (FIN m ρ) (off17_eq c) ((cred_bk _ _).trans amt_8.symm) (dp_s8 m ρ c) r8) $$ [H8 Hd8 HO Ht8]
  · isplitr; · iexact He
    isplitl [H8]; · iexact H8
    isplitl [Hd8]; · iexact Hd8
    isplitl [HO]; · iexact HO
    iexact Ht8
  iintro ⟨Hc8, HO⟩
  iapply (wait_d m ρ K c (sj 6) 0 rfl ((cred_h.trans amt_6.symm).trans (dAmt_sj 6).symm) (by decide)) $$ [Hc6 HO Ha]
  · isplitr; · iexact He
    isplitl [Hc6]; · iexact Hc6
    isplitl [HO]; · iexact HO
    iexact Ha
  iintro ⟨HO, Ha, P6⟩
  ihave P6 := (Entails.of_eq (dp_s6 m ρ c)) $$ P6
  iapply (ret_intro c)
  iapply Hk
  isplitl [HO]; · iexact HO
  isplitl [Hc7]; · iexact Hc7
  isplitl [Hc8]; · iexact Hc8
  isplitl [Ha]; · iexact Ha
  iexact P6

end Cert.KernelIdealProof

end
-- ==== Proof.KernelIdeal.Body.lean ====
/-
The body of the kernel, from its parts.
-/
module

public import proofs.«01_k».proof.Proof.KernelIdeal.Part3

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 18) → ℕ)

theorem bind_intro (c : Dev nD) {α β : Type} (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q := by
  unfold WP; rw [wp_bind]

omit [FloatOps F] in
theorem bs9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := by
  rw [bigSep_univ_eq_bigSepL [0, 1, 2, 3, 4, 5, 6, 7, 8] (by decide) (by decide)]
  simp only [bigSepL_cons_cons, bigSepL_singleton]; rfl
omit [FloatOps F] in
theorem bs18 (Φ : Fin 18 → sProp 𝕄) : bigSep Finset.univ Φ = iprop(Φ (sj 0) ∗ Φ (sj 1) ∗ Φ (sj 2) ∗ Φ (sj 3) ∗ Φ (sj 4) ∗ Φ (sj 5) ∗ Φ (sj 6) ∗ Φ (sj 7) ∗ Φ (sj 8)
    ∗ Φ (rj 0) ∗ Φ (rj 1) ∗ Φ (rj 2) ∗ Φ (rj 3) ∗ Φ (rj 4) ∗ Φ (rj 5) ∗ Φ (rj 6) ∗ Φ (rj 7) ∗ Φ (rj 8)) := by
  rw [bigSep_univ_eq_bigSepL [sj 0, sj 1, sj 2, sj 3, sj 4, sj 5, sj 6, sj 7, sj 8, rj 0, rj 1, rj 2, rj 3, rj 4, rj 5, rj 6, rj 7, rj 8] (by decide) (by decide)]
  simp only [bigSepL_cons_cons, bigSepL_singleton]; rfl

omit [FloatOps F] in
theorem bar_true (c : Dev nD) : (barPay (pb c) true : sProp 𝕄) = iprop((∃ f, wPt c cc0_scratch3 f) ∗ (∃ f, wPt c cc0_scratch4 f)
    ∗ (∃ f, oPt c (blk (k7 (pb c)) 1) f) ∗ ∃ f, oPt c (blk (k8 (pb c)) 1) f) := by
  have e : ∀ d : Dev nD, d = c → (iprop((∃ f, wPt d cc0_scratch3 f) ∗ (∃ f, wPt d cc0_scratch4 f)
    ∗ (∃ f, oPt d (blk (k7 (pb c)) 1) f) ∗ ∃ f, oPt d (blk (k8 (pb c)) 1) f) : sProp 𝕄) = iprop((∃ f, wPt c cc0_scratch3 f) ∗ (∃ f, wPt c cc0_scratch4 f)
    ∗ (∃ f, oPt c (blk (k7 (pb c)) 1) f) ∗ ∃ f, oPt c (blk (k8 (pb c)) 1) f) := fun d h => by subst h; rfl
  exact e _ (pb_pb c)
omit [FloatOps F] in
theorem bar_false (c : Dev nD) : (barPay (pg c) false : sProp 𝕄) = iprop((∃ f, wPt c cc0_scratch2 f) ∗ (∃ f, wPt c cc0_scratch5 f) ∗ ∃ f, oPt c (half (gh (pg c))) f) := by
  have e : ∀ d : Dev nD, d = c → (iprop((∃ f, wPt d cc0_scratch2 f) ∗ (∃ f, wPt d cc0_scratch5 f) ∗ ∃ f, oPt d (half (gh (pg c))) f) : sProp 𝕄)
      = iprop((∃ f, wPt c cc0_scratch2 f) ∗ (∃ f, wPt c cc0_scratch5 f) ∗ ∃ f, oPt c (half (gh (pg c))) f) := fun d h => by subst h; rfl
  exact e _ (pg_pg c)

omit [FloatOps F] in
theorem nbr_true (c : Dev nD) : (barPay c true : sProp 𝕄) = iprop((∃ f, wPt (pb c) cc0_scratch3 f) ∗ (∃ f, wPt (pb c) cc0_scratch4 f)
    ∗ (∃ f, oPt (pb c) (blk (k7 c) 1) f) ∗ ∃ f, oPt (pb c) (blk (k8 c) 1) f) := rfl
omit [FloatOps F] in
theorem nbr_false (c : Dev nD) : (barPay c false : sProp 𝕄) = iprop((∃ f, wPt (pg c) cc0_scratch2 f) ∗ (∃ f, wPt (pg c) cc0_scratch5 f) ∗ ∃ f, oPt (pg c) (half (gh c)) f) := rfl

/-- The six scratch buffers of a device, at whatever they hold. -/
def scr (c : Dev nD) : sProp 𝕄 :=
  iprop((∃ f, wPt c cc0_scratch0 f) ∗ (∃ f, wPt c cc0_scratch1 f) ∗ (∃ f, wPt c cc0_scratch2 f) ∗ (∃ f, wPt c cc0_scratch3 f)
    ∗ (∃ f, wPt c cc0_scratch4 f) ∗ ∃ f, wPt c cc0_scratch5 f)

set_option maxHeartbeats 2000000 in
/-- The whole body: from its ghost state, the input and the buffers, to the output holding the sums. -/
theorem body (c : Dev nD) (W : Waits sig Unit) (fo : OC F) (Q : PUnit → sProp 𝕄) :
    iprop(env m ρ K ∗ owes (c : Thread nD τ) (O₀ c) W ∗ atPos ER (barCell c) 0 ∅ 0 ∗ (bigSep Finset.univ fun j : Fin 18 => p0 c j)
        ∗ dutyTok ER (barCell (pb c)) 0 true ∗ dutyTok ER (barCell (pg c)) 0 false ∗ (bigSep Finset.univ fun j : Fin 9 => tk c j)
        ∗ cred (tallyAt (barCell c) () 2) ∗ (bigSep Finset.univ fun j : Fin 9 => cr c (rj j))
        ∗ scr c ∗ wPt c cc0_stg0_0 (xs m ρ c) ∗ wPt c cc0_stg1_0 fo
        ∗ ((Ow c 0 ∗ atPos ER (barCell c) 1 ∅ 0 ∗ (bigSep Finset.univ fun j : Fin 18 => p1 c j) ∗ scr c
            ∗ wPt c cc0_stg0_0 (xs m ρ c) ∗ wPt c cc0_stg1_0 (FIN m ρ)) -∗ Q ⟨⟩))
      ⊢ WP c (k0_part11 (F := F) xM (Memref.isWhole_whole _) oM (Memref.isWhole_whole _) saM (Memref.isWhole_whole _) sbM (Memref.isWhole_whole _) raM (Memref.isWhole_whole _) rbM (Memref.isWhole_whole _) taM (Memref.isWhole_whole _) tbM (Memref.isWhole_whole _) cc0_scratch6 cc0_scratch7) Q := by
  simp only [k0_part11_eq_skeleton]; unfold k0_part11_skel
  rw [bs9, bs9, bs18, bs18, whole_cut]
  unfold scr
  iintro ⟨#He, HO, HaB, ⟨S0, S1, S2, S3, S4, S5, S6, S7, S8, R0, R1, R2, R3, R4, R5, R6, R7, R8⟩, Htb, Htg, ⟨T0, T1, T2, T3, T4, T5, T6, T7, T8⟩,
    Hcb, ⟨C0, C1, C2, C3, C4, C5, C6, C7, C8⟩, ⟨X0, X1, X2, X3, X4, X5⟩, Hx, ⟨Oh, O7, O8, Og, N7, N8⟩, Hk⟩
  iapply (bind_intro c)
  iapply (part1 m ρ K c W)
  isplitr; · iexact He
  isplitl [HO]; · iexact HO
  isplitl [Htb]; · iexact Htb
  isplitl [Htg]; · iexact Htg
  isplitl [X3 X4 N7 N8]
  · iapply (Entails.of_eq (bar_true c).symm)
    isplitl [X3]; · iexact X3
    isplitl [X4]; · iexact X4
    isplitl [N7]; · iexists _; iexact N7
    iexists _; iexact N8
  isplitl [X2 X5 Og]
  · iapply (Entails.of_eq (bar_false c).symm)
    isplitl [X2]; · iexact X2
    isplitl [X5]; · iexact X5
    iexists _; iexact Og
  isplitl [Hcb]; · iexact Hcb
  isplitl [HaB]; · iexact HaB
  iintro ⟨HO, HaB, P0, P1⟩ %v19 %v22 %v23 %v24 %v30 %v31 %w
  ihave P0 := (Entails.of_eq (nbr_false c)) $$ P0
  ihave P1 := (Entails.of_eq (nbr_true c)) $$ P1
  icases P0 with ⟨L2, L5, Lh⟩
  icases P1 with ⟨L3, L4, L7, L8⟩
  dsimp only
  iapply (bind_intro c)
  iapply (part2 m ρ c)
  isplitl [Hx]; · iexact Hx
  isplitl [X0]; · iexact X0
  isplitl [X1]; · iexact X1
  iintro ⟨Hx, X0, X1⟩
  ihave Oh := (Entails.of_eq (half_56 c fo)) $$ Oh
  icases Oh with ⟨O5, O6⟩
  iapply (bind_intro c)
  iapply (part3 m ρ K c)
  isplitr; · iexact He
  isplitl [X0]; · iexact X0
  isplitl [X1]; · iexact X1
  isplitl [L2]; · iexact L2
  isplitl [L3]; · iexact L3
  isplitl [HO]; · iexact HO
  isplitl [T0]; · iexact T0
  isplitl [T1]; · iexact T1
  isplitl [Hx]; · iexact Hx
  isplitl [O5]; · iexact O5
  isplitl [O6]; · iexact O6
  iintro ⟨D0, D1, HO, Hx, O5, O6⟩
  iapply (bind_intro c)
  iapply (part4 m ρ K c)
  isplitr; · iexact He
  isplitl [D0]; · iexact D0
  isplitl [C0]; · iexact C0
  isplitl [D1]; · iexact D1
  isplitl [C1]; · iexact C1
  isplitl [S0]; · iexact S0
  isplitl [R0]; · iexact R0
  isplitl [S1]; · iexact S1
  isplitl [R1]; · iexact R1
  isplitl [HO]; · iexact HO
  isplitl [Hx]; · iexact Hx
  isplitl [O7]; · iexact O7
  isplitl [O8]; · iexact O8
  iintro ⟨⟨S0, R0, S1, R1⟩, X0, X2, X1, X3, HO, Hx, O7, O8⟩
  iapply (bind_intro c)
  iapply (part5 m ρ c)
  isplitl [O5]; · iexact O5
  isplitl [O6]; · iexact O6
  isplitl [X2]; · iexact X2
  isplitl [O7]; · iexact O7
  isplitl [X3]; · iexact X3
  iintro ⟨O5, O6, X2, O7, X3⟩
  ihave Oh := (Entails.of_eq ((half_56 c (A1 m ρ c)).symm.trans (half_own c (A1 m ρ c)))) $$ [O5 O6]
  · isplitl [O5]; · iexact O5
    iexact O6
  icases Oh with ⟨Ok, Op⟩
  iapply (bind_intro c)
  iapply (part6 m ρ K c)
  isplitr; · iexact He
  isplitl [O7]; · iexact O7
  isplitl [X3]; · iexact X3
  isplitl [O8]; · iexact O8
  isplitl [Op]; · iexact Op
  isplitl [L4]; · iexact L4
  isplitl [HO]; · iexact HO
  isplitl [T2]; · iexact T2
  iintro ⟨O7, X3, O8, D2, HO⟩ %v173
  ihave Oh := (Entails.of_eq (blk_78 c (B1 m ρ c))) $$ [O7 O8]
  · isplitl [O7]; · iexact O7
    iexact O8
  icases Oh with ⟨Oj, Oq⟩
  iapply (bind_intro c)
  iapply (part7 m ρ K c)
  isplitr; · iexact He
  isplitl [Oq]; · iexact Oq
  isplitl [L5]; · iexact L5
  isplitl [HO]; · iexact HO
  isplitl [T3]; · iexact T3
  isplitl [D2]; · iexact D2
  isplitl [C2]; · iexact C2
  isplitl [C3]; · iexact C3
  isplitl [S2]; · iexact S2
  isplitl [R2]; · iexact R2
  isplitl [S3]; · iexact S3
  isplitl [R3]; · iexact R3
  isplitl [Ok]; · iexact Ok
  iintro ⟨⟨S2, R2, S3, R3⟩, X4, Qb, X5, Qg, HO, Ok⟩
  iapply (bind_intro c)
  iapply (part8 m ρ K c)
  isplitr; · iexact He
  isplitl [Oj]; · iexact Oj
  isplitl [X5]; · iexact X5
  isplitl [Ok]; · iexact Ok
  isplitl [Qb]; · iexists _; iexact Qb
  isplitl [Qg]; · iexists _; iexact Qg
  isplitl [HO]; · iexact HO
  isplitl [T4]; · iexact T4
  isplitl [T5]; · iexact T5
  iintro ⟨X5, D4, D5, HO⟩
  iapply (bind_intro c)
  iapply (part9 m ρ K c)
  isplitr; · iexact He
  isplitl [HO]; · iexact HO
  isplitl [D4]; · iexact D4
  isplitl [C4]; · iexact C4
  isplitl [D5]; · iexact D5
  isplitl [C5]; · iexact C5
  isplitl [S4]; · iexact S4
  isplitl [R4]; · iexact R4
  isplitl [S5]; · iexact S5
  isplitl [R5]; · iexact R5
  iintro ⟨⟨S4, R4, S5, R5⟩, HO, O0, O1, O2, O3⟩ %v278
  ihave Oh := (Entails.of_eq (half_own c (FIN m ρ)).symm) $$ [O0 O1]
  · isplitl [O0]; · iexact O0
    iexact O1
  ihave Oj := (Entails.of_eq (blk_78 c (FIN m ρ)).symm) $$ [O2 O3]
  · isplitl [O2]; · iexact O2
    iexact O3
  icases Oj with ⟨O7, O8⟩
  iapply (bind_intro c)
  iapply (part10 m ρ K c)
  isplitr; · iexact He
  isplitl [HO]; · iexact HO
  isplitl [Oh]; · iexact Oh
  isplitl [Lh]; · iexact Lh
  isplitl [O7]; · iexact O7
  isplitl [L7]; · iexact L7
  isplitl [O8]; · iexact O8
  isplitl [L8]; · iexact L8
  isplitl [T6]; · iexact T6
  isplitl [T7]; · iexact T7
  isplitl [T8]; · iexact T8
  isplitl [S6]; · iexact S6
  iintro ⟨HO, D7, D8, S6, Oh⟩
  simp only [Prog.lift, Prog.bind_op, Prog.bind_ret, Prog.pure_eq_ret]
  iapply (wait_d m ρ K c (rj 6) 0 rfl ((cred_h.trans amt_6.symm).trans (dAmt_rj 6).symm) (by decide)) $$ [C6 HO R6]
  · isplitr; · iexact He
    isplitl [C6]; · iexact C6
    isplitl [HO]; · iexact HO
    iexact R6
  iintro ⟨HO, R6, Og⟩
  ihave Og := (Entails.of_eq (dp_r6 m ρ c)) $$ Og
  iapply (wait_d m ρ K c (sj 7) 0 rfl ((cred_b.trans amt_7.symm).trans (dAmt_sj 7).symm) (by decide)) $$ [D7 HO S7]
  · isplitr; · iexact He
    isplitl [D7]; · iexact D7
    isplitl [HO]; · iexact HO
    iexact S7
  iintro ⟨HO, S7, O7⟩
  ihave O7 := (Entails.of_eq (dp_s7 m ρ c)) $$ O7
  iapply (wait_d m ρ K c (rj 7) 0 rfl ((cred_b.trans amt_7.symm).trans (dAmt_rj 7).symm) (by decide)) $$ [C7 HO R7]
  · isplitr; · iexact He
    isplitl [C7]; · iexact C7
    isplitl [HO]; · iexact HO
    iexact R7
  iintro ⟨HO, R7, N7⟩
  ihave N7 := (Entails.of_eq (dp_r7 m ρ c)) $$ N7
  iapply (wait_d m ρ K c (sj 8) 0 rfl ((cred_b.trans amt_8.symm).trans (dAmt_sj 8).symm) (by decide)) $$ [D8 HO S8]
  · isplitr; · iexact He
    isplitl [D8]; · iexact D8
    isplitl [HO]; · iexact HO
    iexact S8
  iintro ⟨HO, S8, O8⟩
  ihave O8 := (Entails.of_eq (dp_s8 m ρ c)) $$ O8
  iapply (wait_d m ρ K c (rj 8) 0 rfl ((cred_b.trans amt_8.symm).trans (dAmt_rj 8).symm) (by decide)) $$ [C8 HO R8]
  · isplitr; · iexact He
    isplitl [C8]; · iexact C8
    isplitl [HO]; · iexact HO
    iexact R8
  iintro ⟨HO, R8, N8⟩
  ihave N8 := (Entails.of_eq (dp_r8 m ρ c)) $$ N8
  iapply (ret_intro c)
  iapply Hk
  isplitl [HO]; · iexact HO
  isplitl [HaB]; · iexact HaB
  isplitl [S0 S1 S2 S3 S4 S5 S6 S7 S8 R0 R1 R2 R3 R4 R5 R6 R7 R8]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  isplitl [X0 X1 X2 X3 X4 X5]
  · isplitl [X0]; · iexact X0
    isplitl [X1]; · iexact X1
    isplitl [X2]; · iexists _; iexact X2
    isplitl [X3]; · iexists _; iexact X3
    isplitl [X4]; · iexists _; iexact X4
    iexists _; iexact X5
  isplitl [Hx]; · iexact Hx
  iapply (Entails.of_eq (whole_cut c (FIN m ρ)).symm)
  isplitl [Oh]; · iexact Oh
  isplitl [O7]; · iexact O7
  isplitl [O8]; · iexact O8
  isplitl [Og]; · iexact Og
  isplitl [N7]; · iexact N7
  iexact N8

end Cert.KernelIdealProof

end
-- ==== Proof.KernelIdeal.Sound.lean ====
/-
The pipeline's data and the obligation on the body.
-/
module

public import proofs.«01_k».proof.Proof.KernelIdeal.Body

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Fin 18) → ℕ)

/-! ## What a device starts from and ends with -/

/-- The protocol's state a device starts from: the cells' records; its positions at round 0 of its nineteen cells; the
    tokens of the duties it pays: one on each neighbour's barrier, two for each of its copies. -/
def ghost (c : Dev nD) : sProp 𝕄 :=
  iprop(env m ρ K ∗ atPos ER (barCell c) 0 ∅ 0 ∗ (bigSep Finset.univ fun j : Fin 18 => p0 c j)
    ∗ dutyTok ER (barCell (pb c)) 0 true ∗ dutyTok ER (barCell (pg c)) 0 false ∗ (bigSep Finset.univ fun j : Fin 9 => tk c j))

/-- That at some names, and the credits of its barrier and of its nine receive cells. -/
def start (c : Dev nD) : sProp 𝕄 :=
  iprop((∃ K, ghost m ρ K c) ∗ cred (tallyAt (barCell c) () 2) ∗ bigSep Finset.univ fun j : Fin 9 => cr c (rj j))

def Φ₀ (c : Dev nD) : sProp 𝕄 := iprop(start m ρ c ∗ scr c)
/-- At the end: the scratch buffers, and all nineteen counters at zero. -/
def Φ₁ (c : Dev nD) : sProp 𝕄 := iprop(scr c ∗ (bigSep Finset.univ fun j : Fin 18 => semVal (dCell c j) 0) ∗ semVal (barCell c) 0)

/-- The pipeline's data: the input's block is staged, the output's staging buffer ends with the sums. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => FIN m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have h := cfg0_N; exact Fin.ext (by simp only [t₀]; omega)

omit [FloatOps F] in
theorem bs_W (Φ : Fin cfg0.W → sProp 𝕄) : bigSep Finset.univ Φ = iprop(Φ (0 : Fin 2) ∗ Φ (1 : Fin 2)) := bigSep_W0 Φ

theorem fetch_x (t : Fin cfg0.N) : (cfg0.win (0 : Fin 2)).fetch t = true := by rw [fin_N t]; rfl

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body between the two -/

/-- The device's eighteen DMA cells close, and their counters are at zero. -/
theorem close_all (c : Dev nD) : iprop(env m ρ K ∗ bigSep Finset.univ fun j : Fin 18 => p1 c j)
    ⊢ (|={Set.univ}=> bigSep Finset.univ fun j : Fin 18 => semVal (dCell c j) 0 : sProp 𝕄) := by
  refine (bigSep_with_persistent (R := env m ρ K) (Ψ := fun j : Fin 18 => iprop(|={Set.univ}=> semVal (dCell c j) 0)) fun j _ => ?_).trans (bigSep_fupd _ _)
  iintro ⟨#He, Hat⟩
  iapply (Rounds.cell_close ER (Rd m ρ) (Set.mem_univ (K (c, some j))) (fun h => h) (R := 0 + 1) (duties_later m ρ (dCell c j)))
  isplitr; · iapply (env_inv m ρ K (c, some j)); iexact He
  iexact Hat

/-- What the pipeline hands the body at its one point, and what it takes back. -/
def pre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def post (c : Dev nD) : sProp 𝕄 :=
  iprop(Φ₁ c ∗ (dats m ρ 0 c).owesAt () t₀.succ ∗ stg c cc0_stg0_0 (xs m ρ c) ∗ stg c cc0_stg1_0 (FIN m ρ))

set_option maxHeartbeats 1000000 in
/-- The body from the one to the other. -/
theorem sound (c : Dev nD) : pre m ρ c ⊢ WP c (cc0_body (F := F) xM (Memref.isWhole_whole _) oM (Memref.isWhole_whole _) saM (Memref.isWhole_whole _) sbM (Memref.isWhole_whole _) raM (Memref.isWhole_whole _) rbM (Memref.isWhole_whole _) taM (Memref.isWhole_whole _) tbM (Memref.isWhole_whole _) cc0_scratch6 cc0_scratch7) (fun _ => post m ρ c) := by
  simp only [cc0_body_eq_skeleton]; unfold cc0_body_skel
  unfold pre Φ₀ start ghost
  iintro ⟨⟨⟨⟨%K, #He, HaB, Hp, Htb, Htg, Htk⟩, Hcb, Hcr⟩, Hscr⟩, Ho, ⟨%d0, %g0, %hg0, Hx⟩, ⟨%d1, %g1, %hg1, Hout⟩⟩
  have hx : g0 = xs m ρ c := by rw [hg0]; unfold Dat.before; rw [if_pos (fetch_x t₀)]; rfl
  subst hx
  unfold Dat.owesAt Pipeline.owesWithin
  icases Ho with ⟨%W, %hW, HO⟩
  rw [show (dats m ρ 0 c).owed t₀.castSucc = O₀ c from rfl]
  iapply (bind_intro c)
  iapply (body m ρ K c W g1)
  isplitr; · iexact He
  isplitl [HO]; · iexact HO
  isplitl [HaB]; · iexact HaB
  isplitl [Hp]; · iexact Hp
  isplitl [Htb]; · iexact Htb
  isplitl [Htg]; · iexact Htg
  isplitl [Htk]; · iexact Htk
  isplitl [Hcb]; · iexact Hcb
  isplitl [Hcr]; · iexact Hcr
  isplitl [Hscr]; · iexact Hscr
  isplitl [Hx]; · unfold wPt; iexact Hx
  isplitl [Hout]; · unfold wPt; iexact Hout
  unfold Ow
  iintro ⟨⟨%W', HO⟩, HaB, Hp, Hscr, Hx, Hout⟩
  simp only [Prog.pure_eq_ret]
  imod (close_all m ρ K c) $$ [Hp] with Hz
  · isplitr; · iexact He
    iexact Hp
  imod (Rounds.cell_close ER (Rd m ρ) (Set.mem_univ (K (c, none))) (fun h => h) (R := 0 + 1) (duties_later m ρ (barCell c))) $$ [HaB] with HzB
  · isplitr; · iapply (env_inv m ρ K (c, none)); iexact He
    iexact HaB
  iapply (ret_intro c)
  unfold post Φ₁ Dat.owesAt Pipeline.owesWithin
  rw [show (dats m ρ 0 c).owed t₀.succ = 0 from rfl]
  isplitl [Hscr Hz HzB]
  · isplitl [Hscr]; · iexact Hscr
    isplitl [Hz]; · iexact Hz
    iexact HzB
  isplitl [HO]
  · iexists W'
    isplitr; · ipureintro; exact fun _ _ => Or.inl trivial
    iexact HO
  isplitl [Hx]
  · iexists _; isplitr; · (ipureintro; rfl)
    unfold wPt; iexact Hx
  iexists _; isplitr; · (ipureintro; rfl)
  unfold wPt; iexact Hout

set_option maxRecDepth 4000 in
/-- The library's obligation on the body of device `c`. -/
theorem obligation (c : Dev nD) : BodyObligation (dats (F := F) m ρ 0 c) (defs₀ (F := F)) 𝒱₀ () Set.univ := fun t => by
  rw [fin_N t]
  rw [bs_W, bs_W]
  simp only [owns_stg]
  exact sound m ρ c

end Cert.KernelIdealProof

end
-- ==== Proof.KernelIdeal.Launch.lean ====
/-
The launch of the four devices: the cells and tokens dealt, the credits, and the run.
-/
module

public import proofs.«01_k».proof.Proof.KernelIdeal.Sound
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch: cells, tokens and their dealing -/

/-- The kernel's own semaphores: the eighteen of its copies. -/
def osem (j : Fin 18) : SemLoc sig := .dma (ds j)
theorem ownSemFacts : Pipeline.OwnSemFacts cfg0.spec osem := by decide

theorem share_eq (c : Dev nD) (w : Fin cfg0.W) : (dats m ρ 0 c).share w = fullShare := by unfold Dat.share; split <;> rfl

/-- `Option` split into its two halves. -/
def optE (n : ℕ) : Unit ⊕ Fin n ≃ Option (Fin n) where
  toFun := Sum.elim (fun _ => none) some
  invFun := fun | none => .inl () | some j => .inr j
  left_inv := fun x => by rcases x with ⟨⟩ | j <;> rfl
  right_inv := fun x => by rcases x with _ | j <;> rfl

omit [FloatOps F] in
theorem bs_opt {n : ℕ} (Φ : Option (Fin n) → sProp 𝕄) : bigSep Finset.univ Φ = iprop(Φ none ∗ bigSep Finset.univ fun j : Fin n => Φ (some j)) := by
  rw [bigSep_univ_equiv (optE n) Φ, bigSep_univ_sum, bigSep_univ_of_subsingleton ()]; rfl

omit [FloatOps F] in
/-- The eighteen split into the send and the receive semaphores. -/
theorem bs_half (Φ : Fin 18 → sProp 𝕄) : bigSep Finset.univ Φ
    = iprop((bigSep Finset.univ fun j : Fin 9 => Φ (sj j)) ∗ bigSep Finset.univ fun j : Fin 9 => Φ (rj j)) := by
  rw [bs18, bs9, bs9]; ac_rfl

theorem kcell_inj : Function.Injective (kcell : Dev nD × Option (Fin 18) → GSem nD τ sig) := by
  rintro ⟨c, k⟩ ⟨c', k'⟩ h
  have h1 : c = c' := congrArg (fun g : GSem nD τ sig => g.1.1) h
  have h2 : csem k = csem k' := congrArg Prod.snd h
  subst h1
  rcases k with _ | k <;> rcases k' with _ | k'
  · rfl
  · exact absurd h2.symm (ds_ne_bar k')
  · exact absurd h2 (ds_ne_bar k)
  · rw [ds_inj h2]
def cellSet : Finset (GSem nD τ sig) := Finset.univ.map ⟨kcell, kcell_inj⟩

/-- The tokens minted for a device's own cells: two for its barrier, one for each of its copies' semaphores. -/
def tokOf (x : Dev nD × (Bool ⊕ Fin 18)) : GSem nD τ sig × ℕ × Bool :=
  match x.2 with
  | .inl b => (barCell x.1, 0, b)
  | .inr j => (dCell x.1 j, 0, false)
theorem tokOf_inj : Function.Injective tokOf := by
  rintro ⟨c, k⟩ ⟨c', k'⟩ h
  rcases k with b | k <;> rcases k' with b' | k'
  · have h1 : c = c' := congrArg (fun x : GSem nD τ sig × ℕ × Bool => x.1.1.1) h
    have h2 : b = b' := congrArg (fun x : GSem nD τ sig × ℕ × Bool => x.2.2) h
    rw [h1, h2]
  · exact absurd (congrArg (fun x : GSem nD τ sig × ℕ × Bool => x.1.2) h).symm (ds_ne_bar k')
  · exact absurd (congrArg (fun x : GSem nD τ sig × ℕ × Bool => x.1.2) h) (ds_ne_bar k)
  · have h1 : c = c' := congrArg (fun x : GSem nD τ sig × ℕ × Bool => x.1.1.1) h
    have h2 : k = k' := ds_inj (congrArg (fun x : GSem nD τ sig × ℕ × Bool => x.1.2) h)
    rw [h1, h2]
def tokSet : Finset (GSem nD τ sig × ℕ × Bool) := Finset.univ.map ⟨tokOf, tokOf_inj⟩

def u₀ : UU := (initOf (Pipeline.cells cfgs cellOf_inj) (Pipeline.launchToks cfgs cellOf_inj), initOf cellSet tokSet)

/-- The tokens of device `c`'s own cells. -/
def toks (c : Dev nD) : sProp 𝕄 :=
  iprop((dutyTok ER (barCell c) 0 true ∗ dutyTok ER (barCell c) 0 false)
    ∗ (bigSep Finset.univ fun j : Fin 9 => dutyTok ER (dCell c (sj j)) 0 false) ∗ bigSep Finset.univ fun j : Fin 9 => dutyTok ER (dCell c (rj j)) 0 false)

/-- The tokens of the duties device `c` pays. -/
def pays (c : Dev nD) : sProp 𝕄 :=
  iprop((dutyTok ER (barCell (pb c)) 0 true ∗ dutyTok ER (barCell (pg c)) 0 false) ∗ bigSep Finset.univ fun j : Fin 9 => tk c j)

/-- The positions of device `c`. -/
def pos (c : Dev nD) : sProp 𝕄 := bigSep Finset.univ fun k : Option (Fin 18) => atPos ER (kcell (c, k)) 0 ∅ 0

/-- What the launch element deals device `c`. -/
def G (c : Dev nD) : sProp 𝕄 :=
  iprop((bigSep Finset.univ fun k : Option (Fin 18) => roundState ER (Rd m ρ) (kcell (c, k)) 0)
    ∗ pos c ∗ (bigSep Finset.univ fun k : Option (Fin 18) => reached ER (kcell (c, k)) 0) ∗ toks c)

/-- The records every device holds. -/
def recs (K : Dev nD × Option (Fin 18) → ℕ) : sProp 𝕄 :=
  iprop((bigSep Finset.univ fun ck => cellInv ER (Rd m ρ) (K ck) (kcell ck)) ∗ bigSep Finset.univ fun ck : Dev nD × Option (Fin 18) => reached ER (kcell ck) 0)
instance recs_persistent (K : Dev nD × Option (Fin 18) → ℕ) : BI.Persistent (recs (F := F) m ρ K) := by unfold recs; infer_instance

/-- What the global step makes of it. -/
def G' (c : Dev nD) : sProp 𝕄 := iprop(∃ K, recs m ρ K ∗ pos c ∗ pays c)

omit [FloatOps F] in
theorem bs_bool (Φ : Bool → sProp 𝕄) : bigSep Finset.univ Φ = iprop(Φ true ∗ Φ false) := bigSep_univ_eq_bigSepL [true, false] (by decide) (by decide) Φ

omit [FloatOps F] in
theorem toks_eq : bigSep tokSet (fun x => (dutyTok ER x.1 x.2.1 x.2.2 : sProp 𝕄)) = bigSep Finset.univ fun c : Dev nD => toks c := by
  unfold tokSet; rw [bigSep_map, bigSep_univ_prod]
  refine bigSep_congr fun c _ => ?_
  rw [bigSep_univ_sum, bs_bool, bs_half]; rfl

theorem fund_all : BI.own (ER (initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun k : Option (Fin 18) => Φ (kcell (c, k)) := by
    unfold cellSet; rw [bigSep_map, bigSep_univ_prod]; rfl
  iintro HX
  imod (Rounds.fund ER (Rd m ρ) cellSet tokSet) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq toks_eq) $$ Htok
  unfold G pos; simp only [bigSep_sep']
  isplitl [Hst]; · iexact Hst
  isplitl [Hat]; · iexact Hat
  isplitl [Hr]; · iexact Hr
  iexact Htok

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem own_eq (c : Dev nD) : (Pipeline.ownSems0 (Ix := Unit) (Name := ℕ) (U := UU) (Lvl := ℕ) (Val := Elt F) (τ := τ) osem c : sProp 𝕄)
    = bigSep Finset.univ fun j : Fin 18 => semVal (dCell c j) 0 := rfl

theorem alloc_one (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ pos c ∗ (bigSep Finset.univ fun k : Option (Fin 18) => reached ER (kcell (c, k)) 0) ∗ toks c) := by
  unfold G
  rw [own_eq, unscoped_eq]
  iintro ⟨Hos, Hus, Hst, Hrest⟩
  ihave Hv := (Entails.of_eq (bs_opt (F := F) fun k : Option (Fin 18) => semVal (kcell (c, k)) 0).symm) $$ [Hos Hus]
  · isplitl [Hus]; · iexact Hus
    iexact Hos
  imod (show iprop((bigSep Finset.univ fun k : Option (Fin 18) => semVal (kcell (c, k)) 0) ∗ bigSep Finset.univ fun k => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv]; · iexact Hv
    iexact Hst
  imodintro
  isplitl [Hinv]; · iexact Hinv
  iexact Hrest

omit [FloatOps F] in
/-- Every token goes to the device that pays its duty: a barrier's two to its neighbours, a send semaphore's stays, a
    receive semaphore's to the copy's sender. -/
theorem around : (bigSep Finset.univ fun c : Dev nD => (toks c : sProp 𝕄)) = bigSep Finset.univ fun c : Dev nD => pays c := by
  unfold toks pays tk
  simp only [bigSep_sep']
  rw [bigSep_univ_equiv pbE (fun c : Dev nD => (dutyTok ER (barCell c) 0 true : sProp 𝕄)),
    bigSep_univ_equiv pgE (fun c : Dev nD => (dutyTok ER (barCell c) 0 false : sProp 𝕄)),
    bigSep_univ_comm (fun (c : Dev nD) (j : Fin 9) => (dutyTok ER (dCell c (rj j)) 0 false : sProp 𝕄)),
    bigSep_univ_comm (fun (c : Dev nD) (j : Fin 9) => (dutyTok ER (rcv j c) 0 false : sProp 𝕄)),
    bigSep_congr (s := Finset.univ) fun (j : Fin 9) _ => bigSep_univ_equiv (dstE j) (fun c : Dev nD => (dutyTok ER (dCell c (rj j)) 0 false : sProp 𝕄))]
  rfl

theorem regroup :
    (bigSep Finset.univ fun c : Dev nD => iprop((bigSep Finset.univ fun k => iprop(∃ κ : ℕ, cellInv ER (Rd m ρ) κ (kcell (c, k))))
          ∗ pos c ∗ (bigSep Finset.univ fun k : Option (Fin 18) => reached ER (kcell (c, k)) 0) ∗ toks c) : sProp 𝕄)
      ⊢ bigSep Finset.univ (G' m ρ) := by
  rw [bigSep_sep', bigSep_sep', bigSep_sep', ← bigSep_univ_prod (fun ck : Dev nD × Option (Fin 18) => iprop(∃ κ : ℕ, cellInv ER (Rd m ρ) κ (kcell ck))),
    ← bigSep_univ_prod (fun ck : Dev nD × Option (Fin 18) => (reached ER (kcell ck) 0 : sProp 𝕄)), around]
  iintro ⟨HI, Hat, #HR, Htok⟩
  ihave HK := (ent (BI.bigSep_exists_pi Finset.univ (fun (ck : Dev nD × Option (Fin 18)) (κ : ℕ) => (cellInv ER (Rd m ρ) κ (kcell ck) : sProp 𝕄)))) $$ HI
  icases HK with ⟨%K, #HI⟩
  iapply (bigSep_with_persistent (R := recs m ρ K) (Φ := fun c : Dev nD => iprop(pos c ∗ pays c)) fun c _ => show _ ⊢ G' m ρ c by
    unfold G'; iintro H; iexists K; iexact H)
  isplitr
  · unfold recs; isplitl; · iexact HI
    iexact HR
  rw [bigSep_sep']
  isplitl [Hat]; · iexact Hat
  iexact Htok

/-- The global step: the counters of every device become cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc_one m ρ c).trans (bigSep_fupd _ _)).trans (BI.fupd_mono (regroup m ρ))

/-! ### The launch credit -/

theorem bar_iff {a b : Dev nD} : Iff (barCell a = barCell b) (a = b) :=
  ⟨fun h => congrArg (fun g : GSem nD τ sig => g.1.1) h, fun h => h ▸ rfl⟩

/-- What a device owes a barrier cell for one signal to the neighbour `f d`. -/
theorem owed_sig (f : Dev nD → Dev nD) (hf : ∀ c, f (f c) = c) (d c : Dev nD) :
    tallyAt (barCell (f d)) () 1 (barCell c) () = if d = f c then 1 else 0 := by
  rw [tallyAt_apply]
  by_cases h : d = f c
  · subst h; rw [hf, if_pos ⟨rfl, rfl⟩, if_pos rfl]
  · rw [if_neg (fun ⟨h1, _⟩ => h (by rw [bar_iff.mp h1, hf])), if_neg h]

theorem OR_bar (d c : Dev nD) (n : ℕ) : OR d n (barCell c) () = 0 :=
  Nat.eq_zero_of_not_pos fun h => by
    obtain ⟨j, _, e⟩ := OR_pos h
    exact ds_ne_bar (rj j) (congrArg Prod.snd e).symm

theorem owed_bar (d c : Dev nD) : O₀ d (barCell c) () = (if d = pg c then 1 else 0) + (if d = pb c then 1 else 0) := by
  show OR d 9 (barCell c) () + tallyAt (barCell (pg d)) () 1 (barCell c) () + tallyAt (barCell (pb d)) () 1 (barCell c) () = _
  rw [OR_bar, owed_sig pg pg_pg, owed_sig pb pb_pb, Nat.zero_add]

theorem rj_inj {i j : Fin 9} (h : rj i = rj j) : i = j := by revert i j; decide

/-- What a device owes, once `n` of its copies are left, to a receive cell. -/
theorem OR_recv (d c : Dev nD) (j : Fin 9) : ∀ n : ℕ, n ≤ 9 → OR d n (dCell c (rj j)) () = if 9 - n ≤ j.val ∧ d = dst j c then amt j else 0
  | 0, _ => by
    rw [if_neg (fun h => absurd h.1 (by have := j.isLt; omega))]; rfl
  | n + 1, hn => by
    show OR d n (dCell c (rj j)) () + tallyAt (rcv ⟨8 - n, rev_lt n⟩ d) () (amt ⟨8 - n, rev_lt n⟩) (dCell c (rj j)) () = _
    rw [OR_recv d c j n (by omega), tallyAt_apply]
    by_cases hj : j.val = 8 - n
    · have e : (⟨8 - n, rev_lt n⟩ : Fin 9) = j := Fin.ext hj.symm
      rw [e, if_neg (fun h => absurd h.1 (by omega)), Nat.zero_add]
      by_cases hd : d = dst j c
      · subst hd
        rw [if_pos ⟨by show dCell c (rj j) = dCell (dst j (dst j c)) (rj j); rw [dst_dst], rfl⟩, if_pos ⟨by omega, rfl⟩]
      · rw [if_neg (fun ⟨h1, _⟩ => hd (by
          have : c = dst j d := congrArg (fun g : GSem nD τ sig => g.1.1) h1
          rw [this, dst_dst])), if_neg (fun h => hd h.2)]
    · rw [if_neg (t := amt ⟨8 - n, rev_lt n⟩) (fun ⟨h1, _⟩ => hj (by
        have := rj_inj (ds_inj (congrArg Prod.snd h1))
        exact congrArg Fin.val this)), Nat.add_zero]
      by_cases h : 9 - n ≤ j.val
      · simp only [h, show 9 - (n + 1) ≤ j.val by omega]
      · simp only [h, show ¬ 9 - (n + 1) ≤ j.val by omega]

theorem owed_recv (d c : Dev nD) (j : Fin 9) : O₀ d (dCell c (rj j)) () = if d = dst j c then amt j else 0 := by
  show OR d 9 (dCell c (rj j)) () + tallyAt (barCell (pg d)) () 1 (dCell c (rj j)) () + tallyAt (barCell (pb d)) () 1 (dCell c (rj j)) () = _
  rw [OR_recv d c j 9 le_rfl, tallyAt_apply, tallyAt_apply, if_neg (t := 1) (fun h => ds_ne_bar (rj j) (congrArg Prod.snd h.1)),
    if_neg (t := 1) (fun h => ds_ne_bar (rj j) (congrArg Prod.snd h.1))]
  simp only [Nat.add_zero, Nat.sub_self, Nat.zero_le, true_and]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pg c) fun _ => 1, Finset.sum_ite_eq' Finset.univ (pb c) fun _ => 1, if_pos (Finset.mem_univ _), if_pos (Finset.mem_univ _)]

theorem launch_recv (c : Dev nD) (j : Fin 9) :
    tallyOn (dCell c (rj j)) (launchCredit (Pipeline.owing O₀) 0 (dCell c (rj j))) = (tallyAt (dCell c (rj j)) () (dAmt (rj j)) : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (dst j c) fun _ => amt j,
    if_pos (Finset.mem_univ _), dAmt_rj]

/-- The cells a device waits on with credit: its barrier and its receive cells. -/
def credSem (x : Option (Fin 9)) : SemLoc sig := csem (x.map rj)
theorem credSem_inj : Function.Injective credSem := by
  rintro (_ | i) (_ | j) h
  · rfl
  · exact absurd h.symm (ds_ne_bar (rj j))
  · exact absurd h (ds_ne_bar (rj i))
  · rw [rj_inj (ds_inj h)]

/-- The credit a device starts with. -/
theorem creds (c : Dev nD) :
    (Pipeline.launchCred O₀ c : sProp 𝕄) ⊢ iprop(cred (tallyAt (barCell c) () 2) ∗ bigSep Finset.univ fun j : Fin 9 => cr c (rj j)) := by
  unfold Pipeline.launchCred cr
  rw [← launch_bar, bigSep_congr (s := Finset.univ) fun (j : Fin 9) _ => congrArg cred (launch_recv c j).symm]
  refine BIBase.Entails.trans (ent (bigSep_subset (Finset.subset_univ (Finset.univ.map ⟨credSem, credSem_inj⟩)))) ?_
  rw [bigSep_map, bs_opt]
  exact Entails.of_eq rfl

/-! ### The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' recs pos pays
  rw [bs_opt]
  iintro ⟨-, #Hlev, Hcr, -, ⟨%K, ⟨#HI, #HR⟩, ⟨HaB, Hp⟩, ⟨Htb, Htg⟩, Htk⟩⟩
  ihave Hc := (creds (F := F) c) $$ Hcr
  icases Hc with ⟨H1, HN⟩
  imodintro
  unfold start ghost env
  isplitl
  · isplitl [HaB Hp Htb Htg Htk]
    · iexists K
      isplitr
      · isplitr; · iexact HI
        isplitr; · iexact HR
        iexact Hlev
      isplitl [HaB]; · iexact HaB
      isplitl [Hp]; · iexact Hp
      isplitl [Htb]; · iexact Htb
      isplitl [Htg]; · iexact Htg
      iexact Htk
    isplitl [H1]; · iexact H1
    iexact HN
  · iempintro

omit [FloatOps F] in
theorem scr_eq (c : Dev nD) : (Pipeline.scopedRest cfg0.spec c : sProp 𝕄) = scr c := by
  rw [scopedRest0_eq]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq, own_eq, unscoped_eq]
  unfold Φ₁
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- What the array of window `w` holds on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, every weakly fair execution of the four devices terminates,
    and each ends with its two arrays at the stated contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealProof

end
-- ==== Proof.KernelIdeal.Out.lean ====
/-
What the arrays hold after the run.
-/
module

public import proofs.«01_k».proof.Proof.KernelIdeal.Launch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the two arrays hold after the run -/

/-- The one block of either window is its whole array. -/
theorem emb_in (i : S1024x512.Idx) : (win0_0.blk (0 : Fin 1)).view.emb i = i := by
  funext a
  match a with
  | ⟨0, _⟩ => exact Fin.ext (show 0 + 1 * (i 0).val = (i 0).val by omega)
  | ⟨1, _⟩ => exact Fin.ext (show 0 + 1 * (i 1).val = (i 1).val by omega)
theorem emb_out (i : S1024x512.Idx) : (win0_1.blk (0 : Fin 1)).view.emb i = i := by
  funext a
  match a with
  | ⟨0, _⟩ => exact Fin.ext (show 0 + 1 * (i 0).val = (i 0).val by omega)
  | ⟨1, _⟩ => exact Fin.ext (show 0 + 1 * (i 1).val = (i 1).val by omega)

/-- The staged block of `x` is the device's argument array. -/
theorem xs_eq (c : Dev nD) (i : S1024x512.Idx) : xs m ρ c i = m ((c : Thread nD τ).loc main_arg0) i := by
  show m ((c : Thread nD τ).loc main_arg0) ((win0_0.blk (0 : Fin 1)).view.emb i) = _
  rw [emb_in]

/-- The result array after the run holds the sums. -/
theorem finalA_out (c : Dev nD) : finalA m ρ c (1 : Fin 2) = FIN m ρ := by
  refine (dats (F := F) m ρ 0 c).arrAt_eq_of_cover (1 : Fin 2) (FIN m ρ) (fun t _ => ?_) fun i => ⟨t₀, rfl, ?_⟩
  · rw [fin_N t]
    funext i
    show FIN m ρ i = FIN m ρ ((win0_1.blk (0 : Fin 1)).view.emb i)
    rw [emb_out]
  · have h := (win0_1.blk (0 : Fin 1)).view.emb_mem_set i
    rw [emb_out] at h
    exact h

/-- Every weakly fair execution terminates with the result at the sums on every device, the argument unchanged and every
    semaphore counter at zero. -/
theorem run_values : θ_run defs (onTc (τ := τ) (main (F := F))) (s₀ m ρ) (fun r =>
    (∀ c : Dev nD, r.2.mem ((c : Thread nD τ).loc main_v1) = FIN m ρ
      ∧ r.2.mem ((c : Thread nD τ).loc main_arg0) = m ((c : Thread nD τ).loc main_arg0)) ∧ r.2.sem = fun _ => 0) :=
  (θ_run _ _ _).mono (fun r h => ⟨fun c => ⟨(h.1 c (1 : Fin 2)).trans (finalA_out m ρ c), (h.1 c (0 : Fin 2)).trans (finalA_x m ρ c)⟩, h.2⟩) (run_main m ρ)

end Cert.KernelIdealProof

end
-- ==== Proof.Value.lean ====
/-
The value claim over the extended reals: the sums of the kernel's exchanges are the reference's sum over the four blocks.
-/
module

public import proofs.«01_k».proof.Proof.KernelIdeal.Out
public import proofs.«01_k».proof.Proof.Gen.ReferenceIdeal.Run
public import Idealize.ShloMosaic.Lib.Layout
public import Idealize.ShloMosaic.Lib.Pointwise.Reduce
public import Idealize.ShloMosaic.Lib.Pointwise.Tactic
public import Idealize.ShloMosaic.Lib.Pipeline.Value

@[expose] public section

noncomputable section

namespace Cert.ValueProof

open Idealize.ShloMosaic Idealize.ShloMosaic.TcCoe Idealize.SL.Sem
open Cert.KernelIdeal Cert.KernelIdealProof

variable (m : (ℓ : Loc nD τ sig) → Buf (Elt Ideal) ℓ) (ρ : Dev nD → PrngReg)

/-- The element of device `c`'s argument at `i`, an extended real. -/
def at4 (c : Dev nD) (i : S1024x512.Idx) : EReal := m ((c : Thread nD τ).loc main_arg0) i

/-- Two exchanges sum the four devices' arguments, whichever neighbour comes first. -/
theorem sum4 (f : Dev nD → EReal) (c : Dev nD) :
    (f c + f (pg c)) + (f (pb c) + f (pg (pb c))) = ∑ k : Fin 4, f k
    ∧ (f c + f (pb c)) + (f (pg c) + f (pb (pg c))) = ∑ k : Fin 4, f k := by
  rw [Fin.sum_univ_four]
  fin_cases c
  · exact ⟨show (f 0 + f 3) + (f 1 + f 2) = f 0 + f 1 + f 2 + f 3 by ac_rfl, show (f 0 + f 1) + (f 3 + f 2) = f 0 + f 1 + f 2 + f 3 by ac_rfl⟩
  · exact ⟨show (f 1 + f 2) + (f 0 + f 3) = f 0 + f 1 + f 2 + f 3 by ac_rfl, show (f 1 + f 0) + (f 2 + f 3) = f 0 + f 1 + f 2 + f 3 by ac_rfl⟩
  · exact ⟨show (f 2 + f 1) + (f 3 + f 0) = f 0 + f 1 + f 2 + f 3 by ac_rfl, show (f 2 + f 3) + (f 1 + f 0) = f 0 + f 1 + f 2 + f 3 by ac_rfl⟩
  · exact ⟨show (f 3 + f 0) + (f 2 + f 1) = f 0 + f 1 + f 2 + f 3 by ac_rfl, show (f 3 + f 2) + (f 0 + f 1) = f 0 + f 1 + f 2 + f 3 by ac_rfl⟩

/-- The kernel's result at an index is the sum of the four devices' arguments there. -/
theorem fin_sum (i : S1024x512.Idx) : (FIN m ρ i : EReal) = ∑ k : Fin 4, at4 m k i := by
  have hA (c : Dev nD) : (A2 m ρ c i : EReal) = ∑ k : Fin 4, at4 m k i := by
    show (xs m ρ c i + xs m ρ (pg c) i : EReal) + (xs m ρ (pb c) i + xs m ρ (pg (pb c)) i) = _
    simp only [xs_eq]
    exact (sum4 (fun d => at4 m d i) c).1
  have hB (c : Dev nD) : (B2 m ρ c i : EReal) = ∑ k : Fin 4, at4 m k i := by
    show (xs m ρ c i + xs m ρ (pb c) i : EReal) + (xs m ρ (pg c) i + xs m ρ (pb (pg c)) i) = _
    simp only [xs_eq]
    exact (sum4 (fun d => at4 m d i) c).2
  unfold FIN
  split
  · exact hA _
  · exact hB _

/-- The reference's result as a term of its argument. -/
abbrev refOut (x : Cert.ReferenceIdeal.S4096x512.Idx → Elt Ideal .bf16) : S1024x512.Idx → Elt Ideal .bf16 :=
  truncf (F := Ideal) .bf16 (Host.reduceAdd (extf .f32 (shapeCast _ x Cert.ReferenceIdeal.Facts₀.shapeCasts_S4096x512_S4x1024x512) Cert.ReferenceIdeal.Facts₀.bitsLt_bf16_f32)
    (constant Cert.ReferenceIdeal.S_ .f32 0x00000000#32) Cert.ReferenceIdeal.Facts₀.reducesTo_S4x1024x512_S1024x512_d0 Cert.ReferenceIdeal.Facts₀.h_S_) Cert.ReferenceIdeal.Facts₀.bitsLt_bf16_f32

theorem tiles : Layout.Tiles ⟨2, ![1024, 512]⟩ ⟨2, ![4096, 512]⟩ 0 4 := by decide

/-- The reference's result at an index is the sum of the four blocks there. -/
theorem ref_sum (x : Cert.ReferenceIdeal.S4096x512.Idx → Elt Ideal .bf16) (i : S1024x512.Idx) :
    (refOut x i : EReal) = ∑ k : Fin 4, (Layout.block ⟨2, ![1024, 512]⟩ ⟨2, ![4096, 512]⟩ 0 4 k x tiles i : EReal) := by
  refine (Ideal.hostReduceAdd_r3_a0 (n0 := 4) (n1 := 1024) (n2 := 512) Cert.ReferenceIdeal.Facts₀.reducesTo_S4x1024x512_S1024x512_d0
    (fun j => (shapeCast Cert.ReferenceIdeal.S4x1024x512 x Cert.ReferenceIdeal.Facts₀.shapeCasts_S4096x512_S4x1024x512 j : EReal)) (Ideal.ofBits .f32 0x00000000#32) i).trans ?_
  rw [Ideal.ofBits_zero_f32, zero_add]
  refine Finset.sum_congr rfl fun k _ => ?_
  refine shapeCast_apply x _ _ (tiles.idx k i) ?_
  rw [Shape.rowMajor_val_two, Shape.rowMajor_val_three]
  have h0 : (tiles.idx k i 0).val = k.val * 1024 + (i 0).val := rfl
  have h1 : (tiles.idx k i 1).val = (i 1).val := rfl
  rw [h0, h1]
  show (k.val * 1024 + (i 0).val) * 512 + (i 1).val = (k.val * 1024 + (i 0).val) * 512 + (i 1).val
  rfl

/-- So where each device holds its block of the reference's argument, the two results are equal. -/
theorem values_eq (x : Cert.ReferenceIdeal.S4096x512.Idx → Elt Ideal .bf16)
    (h : ∀ c : Dev nD, m ((c : Thread nD τ).loc main_arg0) = Layout.block ⟨2, ![1024, 512]⟩ ⟨2, ![4096, 512]⟩ 0 4 c x tiles) :
    FIN m ρ = refOut x := by
  funext i
  refine (fin_sum m ρ i).trans (Eq.trans (Finset.sum_congr rfl fun k _ => ?_) (ref_sum x i).symm)
  exact congrFun (h k) i

end Cert.ValueProof

end
-- ==== Proof.lean ====
/-
The proof of the certificate's claim, from the two runs of the kernel and the run of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Out
public import proofs.«01_k».proof.Proof.KernelIdeal.Out
public import proofs.«01_k».proof.Proof.Value
public import Idealize.ShloMosaic.Adequacy
public import Idealize.ShloMosaic.Init

@[expose] public section

noncomputable section

namespace Cert.Proof

open Idealize.ShloMosaic Idealize.SL.Sem Cert.Kernel

/-- The five claims: the three programs run to the end with their arguments unchanged and every counter at zero; the ideal
    program is the kernel's own text; and kernel and reference end with the same sums. -/
theorem claim : Cert.Claim := ⟨Cert.Kernel.Gen.facts, Cert.KernelIdeal.Gen.facts, Cert.ReferenceIdeal.Gen.facts,
  fun m g _ => (θ_run _ _ _).mono (fun _ h => ⟨fun c => (h.1 c).2, h.2⟩) (Cert.KernelProof.run_values (F := Bits) m g),
  fun m g _ => (θ_run _ _ _).mono (fun _ h => ⟨fun c => (h.1 c).2, h.2⟩) (Cert.KernelIdealProof.run_values (F := Ideal) m g),
  fun m g _ => (θ_run _ _ _).mono (fun r h => ⟨fun c => (h c).2, sem_eq_zero_of_no_sems (by decide) r.2⟩) (Cert.ReferenceIdeal.Value.run (F := Ideal) m g),
  trivial,
  fun m g m' g' _ hx => ⟨Cert.KernelIdealProof.FIN m g,
    (θ_run _ _ _).mono (fun _ h c => h.1 c) (Cert.KernelIdealProof.run_values (F := Ideal) m g),
    (θ_run _ _ _).mono (fun _ h => ⟨(h 0).1.trans (Cert.ValueProof.values_eq m g _ hx).symm, (h 0).2⟩) (Cert.ReferenceIdeal.Value.run (F := Ideal) m' g')⟩⟩

end Cert.Proof

end
